-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codes_in_range [hPre_codes_in_range : Cert.Pre_codes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_in_range [hPre_codes_in_range : Cert.Pre_codes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_codes_in_range [hKernelIdeal : Cert.KernelIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_codes_in_range [hReferenceIdeal : Cert.ReferenceIdeal.Facts] [hPre_codes_in_range : Cert.Pre_codes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_codes_in_range [hKernelIdeal : Cert.KernelIdeal.Facts] [hReferenceIdeal : Cert.ReferenceIdeal.Facts] [hPre_codes_in_range : Cert.Pre_codes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_codes_in_range : Cert.Pre_codes_in_range.Facts),
    quiescent_Kernel (hKernel := hKernel)
    ∧ quiescent_KernelIdeal (hKernelIdeal := hKernelIdeal)
    ∧ quiescent_KernelIdeal_pre_codes_in_range (hKernelIdeal := hKernelIdeal) (hPre_codes_in_range := hPre_codes_in_range)
    ∧ quiescent_ReferenceIdeal (hReferenceIdeal := hReferenceIdeal)
    ∧ quiescent_ReferenceIdeal_pre_codes_in_range (hReferenceIdeal := hReferenceIdeal) (hPre_codes_in_range := hPre_codes_in_range)
    ∧ preserves_Kernel_KernelIdeal
    ∧ algebraic_KernelIdeal_ReferenceIdeal_pre_codes_in_range (hKernelIdeal := hKernelIdeal) (hReferenceIdeal := hReferenceIdeal) (hPre_codes_in_range := hPre_codes_in_range)
-- ==== Pre_codes_in_range.lean ====
abbrev S56x8192x16 : Shape := ⟨3, ![56, 8192, 16]⟩
abbrev S16x1024x8 : Shape := ⟨3, ![16, 1024, 8]⟩
abbrev S16x8x768 : Shape := ⟨3, ![16, 8, 768]⟩
abbrev S16x768 : Shape := ⟨2, ![16, 768]⟩
abbrev S56 : Shape := ⟨1, ![56]⟩
abbrev S_ : Shape := ⟨0, ![]⟩

class Facts : Prop where
  bcast_S_S56x8192x16 : S_.BroadcastsInDim S56x8192x16 (![] : Fin 0 → Fin S56x8192x16.rank)
  reducesTo_S56x8192x16_S_d0_1_2 : S56x8192x16.ReducesTo [0, 1, 2] S_
  h_S_ : 0 < S_.numel

variable [Facts]

def fn {F : FTy → Type} [FloatOps F] (main_arg0 : IVec S56x8192x16 32) (main_arg1 : IVec S16x1024x8 16) (main_arg2 : FVec F S16x8x768 .fp8e4m3) (main_arg3 : FVec F S16x768 .f32) (main_arg4 : FVec F S16x768 .f32) (main_arg5 : IVec S56 32) : IVec S_ 1 :=
  let main_c : IVec S_ 32 := constantI S_ 32 0#32
  let main_v0 : IVec S56x8192x16 32 := broadcastInDim S56x8192x16 ![] bcast_S_S56x8192x16 main_c
  let main_v1 : IVec S56x8192x16 1 := cmpi .sge main_arg0 main_v0
  let main_c_0 : IVec S_ 32 := constantI S_ 32 1024#32
  let main_v2 : IVec S56x8192x16 32 := broadcastInDim S56x8192x16 ![] bcast_S_S56x8192x16 main_c_0
  let main_v3 : IVec S56x8192x16 1 := cmpi .slt main_arg0 main_v2
  let main_v4 : IVec S56x8192x16 1 := andi main_v1 main_v3
  let main_c_1 : IVec S_ 1 := constantI S_ 1 1#1
  let main_v5 : IVec S_ 1 := (fun x v => Host.reduce IntOp.andi x v reducesTo_S56x8192x16_S_d0_1_2 h_S_) main_v4 main_c_1
  main_v5
-- ==== Kernel.lean ====
abbrev S56x8192x16 : Shape := ⟨3, ![56, 8192, 16]⟩
abbrev S16x1024x8 : Shape := ⟨3, ![16, 1024, 8]⟩
abbrev S16x8x768 : Shape := ⟨3, ![16, 8, 768]⟩
abbrev S16x768 : Shape := ⟨2, ![16, 768]⟩
abbrev S56 : Shape := ⟨1, ![56]⟩
abbrev S56x16x8192 : Shape := ⟨3, ![56, 16, 8192]⟩
abbrev S16x8x1024 : Shape := ⟨3, ![16, 8, 1024]⟩
abbrev S56x8192x768 : Shape := ⟨3, ![56, 8192, 768]⟩
abbrev S1x16x2048 : Shape := ⟨3, ![1, 16, 2048]⟩
abbrev S1x2048x768 : Shape := ⟨3, ![1, 2048, 768]⟩
abbrev S8x8x1024 : Shape := ⟨3, ![8, 8, 1024]⟩
abbrev S128x768 : Shape := ⟨2, ![128, 768]⟩
abbrev S1x768 : Shape := ⟨2, ![1, 768]⟩
abbrev S1 : Shape := ⟨1, ![1]⟩
abbrev S1x8x1024 : Shape := ⟨3, ![1, 8, 1024]⟩
abbrev S8x1024 : Shape := ⟨2, ![8, 1024]⟩
abbrev S4x1024 : Shape := ⟨2, ![4, 1024]⟩
abbrev S1x1024 : Shape := ⟨2, ![1, 1024]⟩
abbrev S1x1x1024 : Shape := ⟨3, ![1, 1, 1024]⟩
abbrev S1x8x768 : Shape := ⟨3, ![1, 8, 768]⟩
abbrev S8x768 : Shape := ⟨2, ![8, 768]⟩
abbrev S2x768 : Shape := ⟨2, ![2, 768]⟩
abbrev S768 : Shape := ⟨1, ![768]⟩
abbrev S1x8x128 : Shape := ⟨3, ![1, 8, 128]⟩
abbrev S8x128 : Shape := ⟨2, ![8, 128]⟩
abbrev S8x128x1 : Shape := ⟨3, ![8, 128, 1]⟩
abbrev S16x128 : Shape := ⟨2, ![16, 128]⟩
abbrev S128x128 : Shape := ⟨2, ![128, 128]⟩
abbrev S1x128x768 : Shape := ⟨3, ![1, 128, 768]⟩

abbrev nBuf : Space → Nat
  | .hbm => 8
  | .vmem => 12
  | .smem => 1
  | _ => 0

abbrev bufTy : (tb : Table) → Fin (tcTables nBuf tb) → BufTy
  | .hbm, ⟨0, _⟩ => ⟨S56x8192x16, .i32⟩
  | .hbm, ⟨1, _⟩ => ⟨S16x1024x8, .i16⟩
  | .hbm, ⟨2, _⟩ => ⟨S16x8x768, .fp8e4m3⟩
  | .hbm, ⟨3, _⟩ => ⟨S16x768, .f32⟩
  | .hbm, ⟨4, _⟩ => ⟨S16x768, .f32⟩
  | .hbm, ⟨5, _⟩ => ⟨S56x16x8192, .i32⟩
  | .hbm, ⟨6, _⟩ => ⟨S16x8x1024, .i16⟩
  | .hbm, ⟨7, _⟩ => ⟨S56x8192x768, .bf16⟩
  | .local _ .vmem, ⟨0, _⟩ => ⟨S1x16x2048, .i32⟩
  | .local _ .vmem, ⟨1, _⟩ => ⟨S1x16x2048, .i32⟩
  | .local _ .vmem, ⟨2, _⟩ => ⟨S16x8x1024, .i16⟩
  | .local _ .vmem, ⟨3, _⟩ => ⟨S16x8x768, .fp8e4m3⟩
  | .local _ .vmem, ⟨4, _⟩ => ⟨S16x768, .f32⟩
  | .local _ .vmem, ⟨5, _⟩ => ⟨S16x768, .f32⟩
  | .local _ .vmem, ⟨6, _⟩ => ⟨S1x2048x768, .bf16⟩
  | .local _ .vmem, ⟨7, _⟩ => ⟨S1x2048x768, .bf16⟩
  | .local _ .vmem, ⟨8, _⟩ => ⟨S8x8x1024, .i32⟩
  | .local _ .vmem, ⟨9, _⟩ => ⟨S128x768, .f32⟩
  | .local _ .vmem, ⟨10, _⟩ => ⟨S128x768, .bf16⟩
  | .local _ .vmem, ⟨11, _⟩ => ⟨S1x768, .f32⟩
  | .local _ .smem, ⟨0, _⟩ => ⟨S56, .i32⟩
  | _, _ => ⟨S56x8192x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![56, 4], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x8x1024 .i16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x8x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S56x8192x16 : Shape := ⟨3, ![56, 8192, 16]⟩
abbrev S16x1024x8 : Shape := ⟨3, ![16, 1024, 8]⟩
abbrev S16x8x768 : Shape := ⟨3, ![16, 8, 768]⟩
abbrev S16x768 : Shape := ⟨2, ![16, 768]⟩
abbrev S56 : Shape := ⟨1, ![56]⟩
abbrev S16x1x768 : Shape := ⟨3, ![16, 1, 768]⟩
abbrev S16 : Shape := ⟨1, ![16]⟩
abbrev S16384x4x2 : Shape := ⟨3, ![16384, 4, 2]⟩
abbrev S16384x4 : Shape := ⟨2, ![16384, 4]⟩
abbrev S_ : Shape := ⟨0, ![]⟩
abbrev S1x1x16 : Shape := ⟨3, ![1, 1, 16]⟩
abbrev S56x8192x16x1 : Shape := ⟨4, ![56, 8192, 16, 1]⟩
abbrev S56x8192x16x4 : Shape := ⟨4, ![56, 8192, 16, 4]⟩
abbrev S56x8192x16x4x2 : Shape := ⟨5, ![56, 8192, 16, 4, 2]⟩
abbrev S56x8192x128 : Shape := ⟨3, ![56, 8192, 128]⟩
abbrev S1x16 : Shape := ⟨2, ![1, 16]⟩
abbrev S56x1 : Shape := ⟨2, ![56, 1]⟩
abbrev S56x16 : Shape := ⟨2, ![56, 16]⟩
abbrev S56x16x1x1 : Shape := ⟨4, ![56, 16, 1, 1]⟩
abbrev S1x16x8x768 : Shape := ⟨4, ![1, 16, 8, 768]⟩
abbrev S56x16x8x768 : Shape := ⟨4, ![56, 16, 8, 768]⟩
abbrev S56x128x768 : Shape := ⟨3, ![56, 128, 768]⟩
abbrev S56x8192x768 : Shape := ⟨3, ![56, 8192, 768]⟩
abbrev S56x16x1 : Shape := ⟨3, ![56, 16, 1]⟩
abbrev S1x16x768 : Shape := ⟨3, ![1, 16, 768]⟩
abbrev S56x16x768 : Shape := ⟨3, ![56, 16, 768]⟩
abbrev S56x768 : Shape := ⟨2, ![56, 768]⟩
abbrev S56x1x768 : Shape := ⟨3, ![56, 1, 768]⟩

abbrev nBuf : Space → Nat
  | .hbm => 47
  | .vmem => 3
  | .smem => 0
  | _ => 0

abbrev bufTy : (tb : Table) → Fin (tcTables nBuf tb) → BufTy
  | .hbm, ⟨0, _⟩ => ⟨S56x8192x16, .i32⟩
  | .hbm, ⟨1, _⟩ => ⟨S16x1024x8, .i16⟩
  | .hbm, ⟨2, _⟩ => ⟨S16x8x768, .fp8e4m3⟩
  | .hbm, ⟨3, _⟩ => ⟨S16x768, .f32⟩
  | .hbm, ⟨4, _⟩ => ⟨S16x768, .f32⟩
  | .hbm, ⟨5, _⟩ => ⟨S56, .i32⟩
  | .hbm, ⟨6, _⟩ => ⟨S16x8x768, .bf16⟩
  | .hbm, ⟨7, _⟩ => ⟨S16, .i32⟩
  | .hbm, ⟨8, _⟩ => ⟨S16384x4x2, .i16⟩
  | .hbm, ⟨9, _⟩ => ⟨S16384x4, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S1x1x16, .i32⟩
  | .hbm, ⟨14, _⟩ => ⟨S56x8192x16, .i32⟩
  | .hbm, ⟨15, _⟩ => ⟨S56x8192x16, .i32⟩
  | .hbm, ⟨16, _⟩ => ⟨S56x8192x16x1, .i32⟩
  | .hbm, ⟨17, _⟩ => ⟨S56x8192x16x4, .i32⟩
  | .hbm, ⟨18, _⟩ => ⟨S56x8192x16x4x2, .bf16⟩
  | .hbm, ⟨19, _⟩ => ⟨S56x8192x128, .bf16⟩
  | .hbm, ⟨20, _⟩ => ⟨S1x16, .i32⟩
  | .hbm, ⟨21, _⟩ => ⟨S56x1, .i32⟩
  | .hbm, ⟨22, _⟩ => ⟨S56x16, .i32⟩
  | .hbm, ⟨23, _⟩ => ⟨S56x16, .i32⟩
  | .hbm, ⟨24, _⟩ => ⟨S56x16, .i1⟩
  | .hbm, ⟨25, _⟩ => ⟨S56x16x1x1, .i1⟩
  | .hbm, ⟨26, _⟩ => ⟨S1x16x8x768, .bf16⟩
  | .hbm, ⟨27, _⟩ => ⟨S_, .bf16⟩
  | .hbm, ⟨28, _⟩ => ⟨S56x16x8x768, .i1⟩
  | .hbm, ⟨29, _⟩ => ⟨S56x16x8x768, .bf16⟩
  | .hbm, ⟨30, _⟩ => ⟨S56x16x8x768, .bf16⟩
  | .hbm, ⟨31, _⟩ => ⟨S56x16x8x768, .bf16⟩
  | .hbm, ⟨32, _⟩ => ⟨S56x128x768, .bf16⟩
  | .hbm, ⟨33, _⟩ => ⟨S56x8192x768, .f32⟩
  | .hbm, ⟨34, _⟩ => ⟨S56x16x1, .i1⟩
  | .hbm, ⟨35, _⟩ => ⟨S1x16x768, .f32⟩
  | .hbm, ⟨36, _⟩ => ⟨S_, .f32⟩
  | .hbm, ⟨37, _⟩ => ⟨S56x16x768, .i1⟩
  | .hbm, ⟨38, _⟩ => ⟨S56x16x768, .f32⟩
  | .hbm, ⟨39, _⟩ => ⟨S56x16x768, .f32⟩
  | .hbm, ⟨40, _⟩ => ⟨S56x16x768, .f32⟩
  | .hbm, ⟨41, _⟩ => ⟨S_, .f32⟩
  | .hbm, ⟨42, _⟩ => ⟨S56x768, .f32⟩
  | .hbm, ⟨43, _⟩ => ⟨S56x1x768, .f32⟩
  | .hbm, ⟨44, _⟩ => ⟨S56x8192x768, .f32⟩
  | .hbm, ⟨45, _⟩ => ⟨S56x8192x768, .f32⟩
  | .hbm, ⟨46, _⟩ => ⟨S56x8192x768, .bf16⟩
  | .local _ .vmem, ⟨0, _⟩ => ⟨S16x8x768, .fp8e4m3⟩
  | .local _ .vmem, ⟨1, _⟩ => ⟨S16x768, .f32⟩
  | .local _ .vmem, ⟨2, _⟩ => ⟨S16x8x768, .bf16⟩
  | _, _ => ⟨S56x8192x16, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x8x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x8x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Group.lean ====
/- One 128-row group of the kernel's body as a function of what it reads (the code rows, the packed table's chunks, the
   masked weights, the bias row), and its value at an index: the product of the looked-up entries with the weights, plus
   the bias. -/
module

public import Idealize.ShloMosaic.PureOps
public import Idealize.ShloMosaic.PureOps.Ideal
public import Idealize.ShloMosaic.PureOps.Ideal.Laws
public import Idealize.ShloMosaic.Lib.Pipeline.Value
public import Idealize.ShloMosaic.Lib.ValueIdx
public import Idealize.ShloMosaic.Lib.BitcastPair
public import Idealize.ShloMosaic.Lib.BitcastConvert
public import Idealize.ShloMosaic.Lib.Pointwise

@[expose] public section

set_option maxRecDepth 16384

noncomputable section

namespace Cert.Rvq

open Idealize.ShloMosaic hiding ix0 ix1 ix2 ix3 ix4 ix5
open Idealize.ShloMosaic.ValueIdx

abbrev T8x128 : Shape := ⟨2, ![8, 128]⟩
abbrev T8x128x1 : Shape := ⟨3, ![8, 128, 1]⟩
abbrev T1x8x128 : Shape := ⟨3, ![1, 8, 128]⟩
abbrev T16x128 : Shape := ⟨2, ![16, 128]⟩
abbrev T128x128 : Shape := ⟨2, ![128, 128]⟩
abbrev T128x768 : Shape := ⟨2, ![128, 768]⟩
abbrev T1x768 : Shape := ⟨2, ![1, 768]⟩
abbrev T1x128x768 : Shape := ⟨3, ![1, 128, 768]⟩

theorem sc_1x8x128 : T1x8x128.ShapeCasts T8x128 := by decide
theorem sc_8x128x1 : T8x128.ShapeCasts T8x128x1 := by decide
theorem sc_8x128 : T8x128x1.ShapeCasts T8x128 := by decide
theorem bc_16x128 : T8x128.Bitcasts 32 T16x128 16 := by decide
theorem cc_128 : Shape.Concatenates [T16x128, T16x128, T16x128, T16x128, T16x128, T16x128, T16x128, T16x128] T128x128 0 := by decide
theorem tr_128 : T128x128.Transposes [1, 0] T128x128 := by decide
theorem br_128x768 : T1x768.Broadcasts T128x768 := by decide
theorem sc_1x128x768 : T128x768.ShapeCasts T1x128x768 := by decide

/-- The lane a code names within its chunk of 128 entries. -/
def laneOf (code : IVec T8x128 32) : IVec T8x128 32 := andi code (broadcast T8x128 127#32)

/-- Whether bit `b` of a code's chunk number is set. -/
def bitOf (code : IVec T8x128 32) (b : BitVec 32) : IVec T8x128 1 :=
  cmpi .ne (andi (shrsi code (broadcast T8x128 7#32)) (broadcast T8x128 b)) (broadcast T8x128 0#32)

/-- One chunk gathered along its lanes. -/
def gat (lo : IVec T8x128 32) (ch : IVec T1x8x128 32) : IVec T8x128 32 :=
  dynamicGather (s := T8x128) 1 (shapeCast T8x128 ch sc_1x8x128)
    (shapeCast T8x128 (shapeCast T8x128x1
      (select (cmpi .slt lo (broadcast T8x128 0#32)) (addi lo (broadcast T8x128 128#32)) lo) sc_8x128x1) sc_8x128)

/-- The eight chunks gathered, and the one the code names chosen. -/
def pick (code : IVec T8x128 32) (c0 c1 c2 c3 c4 c5 c6 c7 : IVec T1x8x128 32) : IVec T8x128 32 :=
  select (bitOf code 4#32)
    (select (bitOf code 2#32)
      (select (bitOf code 1#32) (gat (laneOf code) c7) (gat (laneOf code) c6))
      (select (bitOf code 1#32) (gat (laneOf code) c5) (gat (laneOf code) c4)))
    (select (bitOf code 2#32)
      (select (bitOf code 1#32) (gat (laneOf code) c3) (gat (laneOf code) c2))
      (select (bitOf code 1#32) (gat (laneOf code) c1) (gat (laneOf code) c0)))

variable {F : FTy → Type} [FloatOps F]

/-- The sixteen rows of entries one table plane gives. -/
def part (code : IVec T1x8x128 32) (c0 c1 c2 c3 c4 c5 c6 c7 : IVec T1x8x128 32) : FVec F T16x128 .bf16 :=
  bitcastToFloat .bf16 (bitcast T16x128 16 (pick (shapeCast T8x128 code sc_1x8x128) c0 c1 c2 c3 c4 c5 c6 c7) bc_16x128)

/-- The group's rows of the result, from its eight parts. -/
def grp (w : FVec F T128x768 .bf16) (b : FVec F T1x768 .f32) (p0 p1 p2 p3 p4 p5 p6 p7 : FVec F T16x128 .bf16) :
    FVec F T1x128x768 .bf16 :=
  shapeCast T1x128x768 (truncf .bf16 (addf
    (matmul (DotDims.plain 128 128 768) none
      (transpose T128x128 [1, 0] (concatenate T128x128 0 [⟨T16x128, p0⟩, ⟨T16x128, p1⟩, ⟨T16x128, p2⟩, ⟨T16x128, p3⟩,
        ⟨T16x128, p4⟩, ⟨T16x128, p5⟩, ⟨T16x128, p6⟩, ⟨T16x128, p7⟩] cc_128) tr_128)
      w (constant T128x768 .f32 0x00000000#32))
    (broadcastTo T128x768 b br_128x768)) (by decide)) sc_1x128x768

/-- A code in range, cut into its chunk number's bits and its lane. -/
theorem code_bits (c : BitVec 32) (hc : c.toNat < 1024) :
    (c &&& 127#32).toNat = c.toNat % 128 ∧ (c.sshiftRight 7).toNat = c.toNat / 128 := by
  constructor
  · rw [BitVec.toNat_and]; exact Nat.and_two_pow_sub_one_eq_mod _ 7
  · have h : c.msb = false := by rw [BitVec.msb_eq_false_iff_two_mul_lt]; omega
    rw [BitVec.sshiftRight_eq_of_msb_false h, BitVec.toNat_ushiftRight, Nat.shiftRight_eq_div_pow]

theorem gat_apply (code : IVec T8x128 32) (ch : IVec T1x8x128 32) (s : Fin 8) (r : Fin 128) :
    gat (laneOf code) ch (ix2 s r) = ch (ix3 0 s ⟨(code (ix2 s r)).toNat % 128, Nat.mod_lt _ (by decide)⟩) := by
  have hlt : (code (ix2 s r) &&& 127#32).toNat = (code (ix2 s r)).toNat % 128 := by
    rw [BitVec.toNat_and]; exact Nat.and_two_pow_sub_one_eq_mod _ 7
  have hidx : shapeCast T8x128 (shapeCast T8x128x1
      (select (cmpi .slt (laneOf code) (broadcast T8x128 0#32)) (addi (laneOf code) (broadcast T8x128 128#32)) (laneOf code)) sc_8x128x1) sc_8x128
      (ix2 s r) = code (ix2 s r) &&& 127#32 := by
    rw [shapeCast_apply _ sc_8x128 (ix2 s r) (ix3 s r 0)
      (by rw [Shape.rowMajor_val_three, Shape.rowMajor_val_two]; show (s.val * 128 + r.val) * 1 + 0 = s.val * 128 + r.val; omega),
      shapeCast_apply _ sc_8x128x1 (ix3 s r 0) (ix2 s r)
      (by rw [Shape.rowMajor_val_three, Shape.rowMajor_val_two]; show s.val * 128 + r.val = (s.val * 128 + r.val) * 1 + 0; omega)]
    show (if BitVec.ofBool ((code (ix2 s r) &&& 127#32).slt 0#32) = 1#1 then _ else code (ix2 s r) &&& 127#32) = _
    rw [if_neg]
    have : ((code (ix2 s r) &&& 127#32).slt 0#32) = false := by
      rw [BitVec.slt_eq_decide, decide_eq_false_iff_not, BitVec.toInt_eq_toNat_of_lt (by rw [hlt]; omega)]
      simp
    rw [this]; decide
  unfold gat
  rw [dynamicGather_apply, hidx]
  refine shapeCast_apply _ sc_1x8x128 _ _ ?_
  rw [Shape.rowMajor_val_three, Shape.rowMajor_val_two]
  show (0 * 8 + s.val) * 128 + (code (ix2 s r)).toNat % 128 = s.val * 128 + (code (ix2 s r) &&& 127#32).toNat % 128
  rw [hlt]; omega

theorem bitOf_apply (code : IVec T8x128 32) (b : BitVec 32) (s : Fin 8) (r : Fin 128) :
    bitOf code b (ix2 s r) = BitVec.ofBool (((code (ix2 s r)).sshiftRight 7 &&& b) != 0#32) := rfl

/-- The word a code in range picks: entry `code` of the table row whose eight chunks are given. -/
theorem pick_apply (code : IVec T8x128 32) (c0 c1 c2 c3 c4 c5 c6 c7 : IVec T1x8x128 32) (s : Fin 8) (r : Fin 128)
    (T : Fin 1024 → BitVec 32) (hc : (code (ix2 s r)).toNat < 1024)
    (h0 : ∀ l : Fin 128, c0 (ix3 0 s l) = T ⟨l.val, by omega⟩)
    (h1 : ∀ l : Fin 128, c1 (ix3 0 s l) = T ⟨128 + l.val, by omega⟩)
    (h2 : ∀ l : Fin 128, c2 (ix3 0 s l) = T ⟨256 + l.val, by omega⟩)
    (h3 : ∀ l : Fin 128, c3 (ix3 0 s l) = T ⟨384 + l.val, by omega⟩)
    (h4 : ∀ l : Fin 128, c4 (ix3 0 s l) = T ⟨512 + l.val, by omega⟩)
    (h5 : ∀ l : Fin 128, c5 (ix3 0 s l) = T ⟨640 + l.val, by omega⟩)
    (h6 : ∀ l : Fin 128, c6 (ix3 0 s l) = T ⟨768 + l.val, by omega⟩)
    (h7 : ∀ l : Fin 128, c7 (ix3 0 s l) = T ⟨896 + l.val, by omega⟩) :
    pick code c0 c1 c2 c3 c4 c5 c6 c7 (ix2 s r) = T ⟨(code (ix2 s r)).toNat, hc⟩ := by
  have e : pick code c0 c1 c2 c3 c4 c5 c6 c7 (ix2 s r) =
      Scalar.select (bitOf code 4#32 (ix2 s r))
        (Scalar.select (bitOf code 2#32 (ix2 s r))
          (Scalar.select (bitOf code 1#32 (ix2 s r)) (gat (laneOf code) c7 (ix2 s r)) (gat (laneOf code) c6 (ix2 s r)))
          (Scalar.select (bitOf code 1#32 (ix2 s r)) (gat (laneOf code) c5 (ix2 s r)) (gat (laneOf code) c4 (ix2 s r))))
        (Scalar.select (bitOf code 2#32 (ix2 s r))
          (Scalar.select (bitOf code 1#32 (ix2 s r)) (gat (laneOf code) c3 (ix2 s r)) (gat (laneOf code) c2 (ix2 s r)))
          (Scalar.select (bitOf code 1#32 (ix2 s r)) (gat (laneOf code) c1 (ix2 s r)) (gat (laneOf code) c0 (ix2 s r)))) := rfl
  rw [e]
  simp only [gat_apply, h0, h1, h2, h3, h4, h5, h6, h7, bitOf_apply]
  obtain ⟨_, hs⟩ := code_bits _ hc
  generalize hx : (code (ix2 s r)).sshiftRight 7 = x at hs
  generalize code (ix2 s r) = c at hc hs
  obtain ⟨n, hn⟩ : ∃ n : Fin 8, x = BitVec.ofNat 32 n.val := ⟨⟨c.toNat / 128, by omega⟩, by
    apply BitVec.eq_of_toNat_eq; rw [hs, BitVec.toNat_ofNat]; show c.toNat / 128 = c.toNat / 128 % _; omega⟩
  have hq : c.toNat / 128 = n.val := by rw [← hs, hn, BitVec.toNat_ofNat]; have := n.isLt; omega
  subst hn
  have key : ∀ (k : Nat) (hk : k + c.toNat % 128 < 1024), k + c.toNat % 128 = c.toNat →
      T ⟨k + c.toNat % 128, hk⟩ = T ⟨c.toNat, hc⟩ := fun k hk h => congrArg T (Fin.ext h)
  fin_cases n
  · exact congrArg T (Fin.ext (by show c.toNat % 128 = c.toNat; simp at hq; omega))
  · exact key 128 (by omega) (by simp at hq; omega)
  · exact key 256 (by omega) (by simp at hq; omega)
  · exact key 384 (by omega) (by simp at hq; omega)
  · exact key 512 (by omega) (by simp at hq; omega)
  · exact key 640 (by omega) (by simp at hq; omega)
  · exact key 768 (by omega) (by simp at hq; omega)
  · exact key 896 (by omega) (by simp at hq; omega)

/-- Half `p` of a word, as a bf16 number. -/
def half (x : BitVec 32) (p : Nat) : F .bf16 := FloatOps.ofBits .bf16 (x.extractLsb' (16 * p) 16)

theorem part_apply (code : IVec T1x8x128 32) (c0 c1 c2 c3 c4 c5 c6 c7 : IVec T1x8x128 32) (q : Fin 16) (r : Fin 128) :
    part (F := F) code c0 c1 c2 c3 c4 c5 c6 c7 (ix2 q r) =
      half (pick (shapeCast T8x128 code sc_1x8x128) c0 c1 c2 c3 c4 c5 c6 c7 (ix2 ⟨q.val / 2, by omega⟩ r)) (q.val % 2) := by
  unfold part half
  rw [bitcastToFloat_apply, bitcast_32_16]
  refine congrArg (FloatOps.ofBits .bf16) ?_
  have hrow : T16x128.row (ix2 q r) = q.val := rfl
  refine congrArg₂ (fun (x : BitVec 32) n => x.extractLsb' n 16) (congrArg _ ?_) (by rw [hrow])
  funext a
  match a with
  | ⟨0, _⟩ => exact Fin.ext (by rw [Shape.Bitcasts.srcIdx_row _ _ _ _ _ rfl]; rfl)
  | ⟨1, _⟩ => exact Fin.ext (by rw [Shape.Bitcasts.srcIdx_other _ _ _ _ _ (by show ¬ (1 + 2 = 2); decide)]; rfl)

/-- Eight sixteen-row parts one below the other, read at a row. -/
theorem cat_apply {α : Type} (p : Fin 8 → (T16x128.Idx → α)) (k r : Fin 128) :
    concatenate T128x128 0 [⟨T16x128, p 0⟩, ⟨T16x128, p 1⟩, ⟨T16x128, p 2⟩, ⟨T16x128, p 3⟩,
        ⟨T16x128, p 4⟩, ⟨T16x128, p 5⟩, ⟨T16x128, p 6⟩, ⟨T16x128, p 7⟩] cc_128 (ix2 k r)
      = p ⟨k.val / 16, by omega⟩ (ix2 ⟨k.val % 16, Nat.mod_lt _ (by decide)⟩ r) := by
  refine concatenate_ofFn_apply (t := T128x128) (s₁ := T16x128) 0 p cc_128 rfl 16 rfl (ix2 k r) ⟨k.val / 16, by omega⟩ rfl _ rfl ?_
  intro b hb
  match b with
  | ⟨0, _⟩ => exact absurd rfl hb
  | ⟨1, _⟩ => rfl

/-- The group's result at an index. -/
theorem grp_apply (w : FVec Ideal T128x768 .bf16) (b : FVec Ideal T1x768 .f32) (p : Fin 8 → FVec Ideal T16x128 .bf16)
    (r : Fin 128) (d : Fin 768) :
    grp (F := Ideal) w b (p 0) (p 1) (p 2) (p 3) (p 4) (p 5) (p 6) (p 7) (ix3 0 r d) =
      (∑ k : Fin 128, (p ⟨k.val / 16, by omega⟩ (ix2 ⟨k.val % 16, Nat.mod_lt _ (by decide)⟩ r) : EReal) * w (ix2 k d)) + b (ix2 0 d) := by
  unfold grp
  rw [shapeCast_apply _ sc_1x128x768 (ix3 0 r d) (ix2 r d)
    (by rw [Shape.rowMajor_val_three, Shape.rowMajor_val_two]; show r.val * 768 + d.val = (0 * 128 + r.val) * 768 + d.val; omega)]
  refine congrArg₂ (fun x y : EReal => x + y) ?_ ?_
  · refine (Ideal.matmul_apply₁_of (DotDims.plain 128 128 768) (a := 1) rfl (K := 128) rfl _ _ _ (ix2 r d) (fun k => ix2 r k) (fun k => ix2 k d) ?_ ?_).trans ?_
    · intro k; funext a
      match a with
      | ⟨0, _⟩ => rfl
      | ⟨1, _⟩ => rfl
    · intro k; funext a
      match a with
      | ⟨0, _⟩ => rfl
      | ⟨1, _⟩ => rfl
    · refine (congrArg₂ (fun x y : EReal => x + y) Idealize.ShloMosaic.Ideal.ofBits_zero_f32 ?_).trans (zero_add _)
      refine Finset.sum_congr rfl fun k _ => congrArg₂ (fun x y : EReal => x * y) ?_ rfl
      refine (transpose_apply [1, 0] _ tr_128 (ix2 r k) (ix2 k r) ?_).trans (cat_apply p k r)
      intro b
      match b with
      | ⟨0, _⟩ => rfl
      | ⟨1, _⟩ => rfl
  · refine broadcastTo_apply _ br_128x768 (ix2 r d) (ix2 0 d) ?_
    intro a
    match a with
    | ⟨0, _⟩ => rfl
    | ⟨1, _⟩ => rfl

/-- One group's result from the weights, the bias row, the code rows of its two halves of the levels, and the packed
    table's chunks (plane, chunk). -/
def grpOf {F : FTy → Type} [FloatOps F] (w : FVec F T128x768 .bf16) (b : FVec F T1x768 .f32) (code : Fin 2 → IVec T1x8x128 32)
    (tab : Fin 8 → Fin 8 → IVec T1x8x128 32) : FVec F T1x128x768 .bf16 :=
  grp w b
    (part (code 0) (tab 0 0) (tab 0 1) (tab 0 2) (tab 0 3) (tab 0 4) (tab 0 5) (tab 0 6) (tab 0 7))
    (part (code 0) (tab 1 0) (tab 1 1) (tab 1 2) (tab 1 3) (tab 1 4) (tab 1 5) (tab 1 6) (tab 1 7))
    (part (code 0) (tab 2 0) (tab 2 1) (tab 2 2) (tab 2 3) (tab 2 4) (tab 2 5) (tab 2 6) (tab 2 7))
    (part (code 0) (tab 3 0) (tab 3 1) (tab 3 2) (tab 3 3) (tab 3 4) (tab 3 5) (tab 3 6) (tab 3 7))
    (part (code 1) (tab 4 0) (tab 4 1) (tab 4 2) (tab 4 3) (tab 4 4) (tab 4 5) (tab 4 6) (tab 4 7))
    (part (code 1) (tab 5 0) (tab 5 1) (tab 5 2) (tab 5 3) (tab 5 4) (tab 5 5) (tab 5 6) (tab 5 7))
    (part (code 1) (tab 6 0) (tab 6 1) (tab 6 2) (tab 6 3) (tab 6 4) (tab 6 5) (tab 6 6) (tab 6 7))
    (part (code 1) (tab 7 0) (tab 7 1) (tab 7 2) (tab 7 3) (tab 7 4) (tab 7 5) (tab 7 6) (tab 7 7))
end Cert.Rvq
end
-- ==== Proof.Spec.lean ====
/- The result both programs compute, as one formula over the extended reals, and the two ways of flattening its double sum
   over levels and entry positions into a sum over 128 columns. -/
module

public import Idealize.ShloMosaic.PureOps
public import Idealize.ShloMosaic.PureOps.Ideal
public import Idealize.ShloMosaic.PureOps.Ideal.Laws
public import Idealize.ShloMosaic.Lib.Pipeline.Value
public import Idealize.ShloMosaic.Lib.ValueIdx
public import Idealize.ShloMosaic.Lib.Pointwise

@[expose] public section

set_option maxRecDepth 16384

noncomputable section

namespace Cert.Rvq

open Idealize.ShloMosaic hiding ix0 ix1 ix2 ix3 ix4 ix5
open Idealize.ShloMosaic.ValueIdx

/-- What a level contributes when only the levels below `n` are active. -/
def mask (n : BitVec 32) (lv : Nat) (x : EReal) : EReal := if (BitVec.ofNat 32 lv).slt n then x else 0

/-- The codebook row a code names. -/
def rowOf (code : BitVec 32) : Fin 1024 := ⟨code.toNat % 1024, Nat.mod_lt _ (by decide)⟩

/-- One element of the result: the active levels' codebook entries times the scaled weights, plus their biases. -/
def spec (x0 : (⟨3, ![56, 8192, 16]⟩ : Shape).Idx → BitVec 32) (x1 : (⟨3, ![16, 1024, 8]⟩ : Shape).Idx → BitVec 16)
    (x2 : (⟨3, ![16, 8, 768]⟩ : Shape).Idx → EReal) (x3 x4 : (⟨2, ![16, 768]⟩ : Shape).Idx → EReal)
    (x5 : (⟨1, ![56]⟩ : Shape).Idx → BitVec 32) (b : Fin 56) (s : Fin 8192) (d : Fin 768) : EReal :=
  (∑ lv : Fin 16, ∑ j : Fin 8, Ideal.ofBits .bf16 (x1 (ix3 lv (rowOf (x0 (ix3 b s lv))) j))
      * mask (x5 (ix1 b)) lv.val (x2 (ix3 lv j d) * x3 (ix2 lv d)))
    + ∑ lv : Fin 16, mask (x5 (ix1 b)) lv.val (x4 (ix2 lv d))

/-- Choosing a contribution by comparing its level with the active count is masking it. -/
theorem select_slt (n : BitVec 32) (lv : Nat) (x : EReal) :
    Scalar.select (IntOp.cmpi .slt (BitVec.ofNat 32 lv) n) x 0 = mask n lv x := by
  unfold Scalar.select mask IntOp.cmpi
  by_cases h : (BitVec.ofNat 32 lv).slt n = true <;> simp [h]

/-- The columns in level order. -/
def colEquiv : Fin 128 ≃ Fin 16 × Fin 8 where
  toFun k := (⟨k.val / 8, by omega⟩, ⟨k.val % 8, by omega⟩)
  invFun p := ⟨p.1.val * 8 + p.2.val, by omega⟩
  left_inv k := Fin.ext (by show k.val / 8 * 8 + k.val % 8 = k.val; omega)
  right_inv p := Prod.ext (Fin.ext (by show (p.1.val * 8 + p.2.val) / 8 = p.1.val; omega))
    (Fin.ext (by show (p.1.val * 8 + p.2.val) % 8 = p.2.val; omega))

/-- The columns in the packed table's order: column `((h * 4 + w) * 8 + s) * 2 + p` is level `8 h + s`, entry
    `2 w + p`. -/
def packEquiv : Fin 128 ≃ Fin 16 × Fin 8 where
  toFun k := (⟨k.val / 64 * 8 + k.val / 2 % 8, by omega⟩, ⟨k.val / 16 % 4 * 2 + k.val % 2, by omega⟩)
  invFun p := ⟨((p.1.val / 8 * 4 + p.2.val / 2) * 8 + p.1.val % 8) * 2 + p.2.val % 2, by omega⟩
  left_inv k := Fin.ext (by
    show (((k.val / 64 * 8 + k.val / 2 % 8) / 8 * 4 + (k.val / 16 % 4 * 2 + k.val % 2) / 2) * 8
      + (k.val / 64 * 8 + k.val / 2 % 8) % 8) * 2 + (k.val / 16 % 4 * 2 + k.val % 2) % 2 = k.val
    omega)
  right_inv p := by
    have h1 := p.1.isLt
    have h2 := p.2.isLt
    refine Prod.ext (Fin.ext ?_) (Fin.ext ?_)
    · show (((p.1.val / 8 * 4 + p.2.val / 2) * 8 + p.1.val % 8) * 2 + p.2.val % 2) / 64 * 8
        + (((p.1.val / 8 * 4 + p.2.val / 2) * 8 + p.1.val % 8) * 2 + p.2.val % 2) / 2 % 8 = p.1.val
      omega
    · show (((p.1.val / 8 * 4 + p.2.val / 2) * 8 + p.1.val % 8) * 2 + p.2.val % 2) / 16 % 4 * 2
        + (((p.1.val / 8 * 4 + p.2.val / 2) * 8 + p.1.val % 8) * 2 + p.2.val % 2) % 2 = p.2.val
      omega

/-- The level of a packed column. -/
abbrev lvOf (k : Fin 128) : Fin 16 := ⟨k.val / 64 * 8 + k.val / 2 % 8, by omega⟩
/-- The entry position of a packed column. -/
abbrev enOf (k : Fin 128) : Fin 8 := ⟨k.val / 16 % 4 * 2 + k.val % 2, by omega⟩

theorem sum_cols (f : Fin 16 → Fin 8 → EReal) :
    ∑ k : Fin 128, f ⟨k.val / 8, by omega⟩ ⟨k.val % 8, by omega⟩ = ∑ lv : Fin 16, ∑ j : Fin 8, f lv j := by
  rw [← Fintype.sum_prod_type' f, ← Equiv.sum_comp colEquiv]
  rfl

theorem sum_pack (f : Fin 16 → Fin 8 → EReal) :
    ∑ k : Fin 128, f (lvOf k) (enOf k) = ∑ lv : Fin 16, ∑ j : Fin 8, f lv j := by
  rw [← Fintype.sum_prod_type' f, ← Equiv.sum_comp packEquiv]
  rfl

end Cert.Rvq

end
-- ==== Proof.Fill.lean ====
/- What the kernel puts into its four scratch buffers, as functions of what it reads (one level's codebook, one level's
   projection and scales, the bias, the number of active levels), and the values at an index. -/
module

public import proofs.«01_k».proof.Proof.Group
public import proofs.«01_k».proof.Proof.Spec
public import Idealize.ShloMosaic.Lib.IdealHost
public import Idealize.ShloMosaic.Lib.KernelVsHost

@[expose] public section

set_option maxRecDepth 16384

noncomputable section

namespace Cert.Rvq

open Idealize.ShloMosaic hiding ix0 ix1 ix2 ix3 ix4 ix5
open Idealize.ShloMosaic.ValueIdx

abbrev T1x8x1024 : Shape := ⟨3, ![1, 8, 1024]⟩
abbrev T8x1024 : Shape := ⟨2, ![8, 1024]⟩
abbrev T4x1024 : Shape := ⟨2, ![4, 1024]⟩
abbrev T1x1024 : Shape := ⟨2, ![1, 1024]⟩
abbrev T1x1x1024 : Shape := ⟨3, ![1, 1, 1024]⟩
abbrev T1x8x768 : Shape := ⟨3, ![1, 8, 768]⟩
abbrev T8x768 : Shape := ⟨2, ![8, 768]⟩
abbrev T2x768 : Shape := ⟨2, ![2, 768]⟩
abbrev T16x768 : Shape := ⟨2, ![16, 768]⟩
abbrev T768 : Shape := ⟨1, ![768]⟩

theorem sc_8x1024 : T1x8x1024.ShapeCasts T8x1024 := by decide
theorem bc_4x1024 : T8x1024.Bitcasts 16 T4x1024 32 := by decide
theorem sl_1x1024 (w : Fin 4) : T4x1024.Slices ![w.val, 0] T1x1024 := by revert w; decide
theorem sc_1x1x1024 : T1x1024.ShapeCasts T1x1x1024 := by decide
theorem sc_8x768 : T1x8x768.ShapeCasts T8x768 := by decide
theorem br_8x768 : T1x768.Broadcasts T8x768 := by decide
theorem sl_2x768 (w : Fin 4) : T8x768.Slices ![2 * w.val, 0] T2x768 := by revert w; decide
theorem sc_2x768 : T2x768.ShapeCasts T2x768 := by decide
theorem sc_128x768 : T128x768.ShapeCasts T128x768 := by decide
theorem sc_1x768 : T1x768.ShapeCasts T1x768 := by decide
theorem sc_768 : T768.ShapeCasts T1x768 := by decide
theorem rd_16x768 : T16x768.Reduces [0] T768 := by decide

/-- The row of packed words `w` of one level's codebook: entries `2w` in the low halves, `2w + 1` in the high halves. -/
def tabRow (cb : IVec T1x8x1024 16) (w : Fin 4) : IVec T1x1x1024 32 :=
  shapeCast T1x1x1024 (extractStridedSlice T1x1024 ![w.val, 0]
    (bitcast T4x1024 32 (shapeCast T8x1024 cb sc_8x1024) bc_4x1024) (sl_1x1024 w)) sc_1x1x1024

theorem tabRow_apply (cb : IVec T1x8x1024 16) (w : Fin 4) (l : Fin 1024) :
    tabRow cb w (ix3 0 0 l) = cb (ix3 0 ⟨2 * w.val + 1, by omega⟩ l) ++ cb (ix3 0 ⟨2 * w.val, by omega⟩ l) := by
  unfold tabRow
  rw [shapeCast_apply _ sc_1x1x1024 (ix3 0 0 l) (ix2 0 l)
    (by rw [Shape.rowMajor_val_three, Shape.rowMajor_val_two]; show (0 : ℕ) * 1024 + l.val = (0 * 1 + 0) * 1024 + l.val; omega)]
  rw [extractStridedSlice_apply ![w.val, 0] _ (sl_1x1024 w) (ix2 0 l) (ix2 w l)
    (fun a => by match a with
      | ⟨0, _⟩ => rfl
      | ⟨1, _⟩ => exact (Nat.zero_add _).symm)]
  rw [bitcast_16_32]
  have hrow : T4x1024.row (ix2 w l) = w.val := rfl
  refine congrArg₂ (fun (x y : BitVec 16) => x ++ y) ?_ ?_
  · rw [shapeCast_apply cb sc_8x1024 _ (ix3 0 ⟨2 * w.val + 1, by omega⟩ l) ?_]
    rw [Shape.rowMajor_val_three, Shape.rowMajor_val_two, Shape.Bitcasts.srcIdx_row _ _ _ _ _ rfl,
      Shape.Bitcasts.srcIdx_other _ _ _ _ _ (by show ¬ (1 + 2 = 2); decide), hrow]
    show (0 * 8 + (2 * w.val + 1)) * 1024 + l.val = (2 * w.val + 1) * 1024 + l.val
    omega
  · rw [shapeCast_apply cb sc_8x1024 _ (ix3 0 ⟨2 * w.val, by omega⟩ l) ?_]
    rw [Shape.rowMajor_val_three, Shape.rowMajor_val_two, Shape.Bitcasts.srcIdx_row _ _ _ _ _ rfl,
      Shape.Bitcasts.srcIdx_other _ _ _ _ _ (by show ¬ (1 + 2 = 2); decide), hrow]
    show (0 * 8 + 2 * w.val) * 1024 + l.val = 2 * w.val * 1024 + l.val
    omega

/-- Half `p` of a packed word is entry `2w + p`. -/
theorem half_append (x : BitVec 16 × BitVec 16) (p : ℕ) (hp : p < 2) :
    (x.1 ++ x.2).extractLsb' (16 * p) 16 = if p = 1 then x.1 else x.2 := by
  obtain ⟨a, b⟩ := x
  have : p = 0 ∨ p = 1 := by omega
  rcases this with rfl | rfl
  · apply BitVec.eq_of_getLsbD_eq; intro i hi
    rw [BitVec.getLsbD_extractLsb', BitVec.getLsbD_append]
    simp [hi]
  · apply BitVec.eq_of_getLsbD_eq; intro i hi
    rw [BitVec.getLsbD_extractLsb', BitVec.getLsbD_append]
    simp [hi]

variable {F : FTy → Type} [FloatOps F]

/-- Two rows of one level's scaled projection. -/
def wfRows (pc : FVec F T1x8x768 .fp8e4m3) (ps : FVec F T1x768 .f32) (w : Fin 4) : FVec F T2x768 .f32 :=
  shapeCast T2x768 (extf .f32 (extractStridedSlice (s := T8x768) T2x768 ![2 * w.val, 0]
    (mulf (extf .bf16 (shapeCast T8x768 pc sc_8x768) (by decide)) (broadcastTo T8x768 (truncf .bf16 ps (by decide)) br_8x768) : FVec F T8x768 .bf16)
    (sl_2x768 w)) (by decide)) sc_2x768

theorem wfRows_apply (pc : FVec Ideal T1x8x768 .fp8e4m3) (ps : FVec Ideal T1x768 .f32) (w : Fin 4) (p : Fin 2) (d : Fin 768) :
    wfRows (F := Ideal) pc ps w (ix2 p d) = (pc (ix3 0 ⟨2 * w.val + p.val, by omega⟩ d) * ps (ix2 0 d) : EReal) := by
  unfold wfRows
  rw [shapeCast_apply _ sc_2x768 (ix2 p d) (ix2 p d) rfl]
  refine (extractStridedSlice_apply (s := T8x768) (t := T2x768) ![2 * w.val, 0]
    (mulf (extf .bf16 (shapeCast T8x768 pc sc_8x768) (by decide)) (broadcastTo T8x768 (truncf .bf16 ps (by decide)) br_8x768)
      : FVec Ideal T8x768 .bf16)
    (sl_2x768 w) (ix2 p d) (ix2 ⟨2 * w.val + p.val, by omega⟩ d)
    (fun a => by match a with
      | ⟨0, _⟩ => rfl
      | ⟨1, _⟩ => exact (Nat.zero_add _).symm)).trans ?_
  refine congrArg₂ (fun x y : EReal => x * y) ?_ ?_
  · exact shapeCast_apply pc sc_8x768 (ix2 ⟨2 * w.val + p.val, by omega⟩ d) (ix3 0 ⟨2 * w.val + p.val, by omega⟩ d)
      (by rw [Shape.rowMajor_val_three, Shape.rowMajor_val_two]
          show (0 * 8 + (2 * w.val + p.val)) * 768 + d.val = (2 * w.val + p.val) * 768 + d.val; omega)
  · refine broadcastTo_apply _ br_8x768 _ (ix2 0 d) ?_
    intro a
    match a with
    | ⟨0, _⟩ => rfl
    | ⟨1, _⟩ => rfl

/-- Whether the signs of `k` and of the positive divisor differ. -/
def sgnNe (s : Shape) (k : IVec s 32) : IVec s 1 :=
  cmpi .ne (subi (extui 32 (cmpi .sgt k (broadcast s 0#32)) (by decide)) (extui 32 (cmpi .slt k (broadcast s 0#32)) (by decide)))
    (broadcast s 1#32)

/-- Division rounding down. -/
def fdiv (s : Shape) (k : IVec s 32) (n : BitVec 32) : IVec s 32 :=
  select (andi (sgnNe s k) (cmpi .ne (remsi k (broadcast s n)) (broadcast s 0#32)))
    (subi (divsi k (broadcast s n)) (broadcast s 1#32)) (divsi k (broadcast s n))

/-- The level of weight row `k`, as the kernel computes it. -/
def lvlVec (s : Shape) (k : IVec s 32) : IVec s 32 :=
  addi (muli (fdiv s k 64#32) (broadcast s 8#32))
    (select (andi (xori (cmpi .slt (remsi (fdiv s k 2#32) (broadcast s 8#32)) (broadcast s 0#32)) (broadcast s (0#1)))
        (cmpi .ne (remsi (fdiv s k 2#32) (broadcast s 8#32)) (broadcast s 0#32)))
      (addi (remsi (fdiv s k 2#32) (broadcast s 8#32)) (broadcast s 8#32))
      (remsi (fdiv s k 2#32) (broadcast s 8#32)))

theorem lvlVec_scalar : ∀ k : Fin 128, lvlVec ⟨0, ![]⟩ (fun _ => BitVec.ofNat 32 k.val) (fun a => a.elim0) = BitVec.ofNat 32 (lvOf k).val := by
  decide +kernel

theorem lvlVec_apply (h) (k : Fin 128) (d : Fin 768) :
    lvlVec T128x768 (iota .tc T128x768 32 [0] h) (ix2 k d) = BitVec.ofNat 32 (lvOf k).val := by
  rw [← iotaInDim_eq_iota]
  exact lvlVec_scalar k

/-- The weights of the first `n` levels, zero for the others. -/
def wOf (n : BitVec 32) (wf : FVec F T128x768 .f32) : FVec F T128x768 .bf16 :=
  shapeCast T128x768 (truncf .bf16 (select (cmpi .slt (lvlVec T128x768 (iota .tc T128x768 32 [0] (by decide))) (broadcast T128x768 n)) wf
    (broadcast T128x768 (Scalar.ofBits .f32 0x00000000#32))) (by decide)) sc_128x768

theorem wOf_apply (n : BitVec 32) (wf : FVec Ideal T128x768 .f32) (k : Fin 128) (d : Fin 768) :
    wOf (F := Ideal) n wf (ix2 k d) = mask n (lvOf k).val (wf (ix2 k d)) := by
  unfold wOf
  rw [shapeCast_apply _ sc_128x768 (ix2 k d) (ix2 k d) rfl, ← select_slt, ← lvlVec_apply (by decide) k d]
  show Scalar.select _ _ (Ideal.ofBits .f32 0x00000000#32) = _
  rw [Idealize.ShloMosaic.Ideal.ofBits_zero_f32]
  rfl

/-- The sum of the first `n` levels' biases. -/
def bOf (n : BitVec 32) (bias : FVec F T16x768 .f32) : FVec F T1x768 .f32 :=
  shapeCast T1x768 (shapeCast T1x768 (multiReduction .add [0] T768
    (select (cmpi .slt (iota .tc T16x768 32 [0] (by decide)) (broadcast T16x768 n)) bias
      (broadcast T16x768 (Scalar.ofBits .f32 0x00000000#32))) 0x00000000#32 rd_16x768 (.inl rfl) rfl) sc_768) sc_1x768

theorem bOf_apply (n : BitVec 32) (bias : FVec Ideal T16x768 .f32) (d : Fin 768) :
    bOf (F := Ideal) n bias (ix2 0 d) = ∑ lv : Fin 16, mask n lv.val (bias (ix2 lv d)) := by
  unfold bOf
  rw [shapeCast_apply _ sc_1x768 (ix2 0 d) (ix2 0 d) rfl,
    shapeCast_apply _ sc_768 (ix2 0 d) (ix1 d)
      (by rw [Shape.rowMajor_val_two, Shape.rowMajor_val_one]; show d.val = 0 * 768 + d.val; omega)]
  refine (Ideal.multiReduction_add_single _ _ rd_16x768 _ _ (ix1 d)).trans (Finset.sum_congr rfl fun lv _ => ?_)
  rw [← select_slt]
  have hl : rd_16x768.lift (ix1 d) lv = ix2 lv d := by
    funext a
    match a with
    | ⟨0, _⟩ => rfl
    | ⟨1, _⟩ => rfl
  rw [hl]
  show Scalar.select _ _ (Ideal.ofBits .f32 0x00000000#32) = _
  rw [Idealize.ShloMosaic.Ideal.ofBits_zero_f32, ← iotaInDim_eq_iota]
  rfl

end Cert.Rvq
end
-- ==== Proof.Pieces.lean ====
/- The lists of blocks the kernel stores at a grid point, in each of its three cases, written by the functions of `Group` and
   `Fill` over what it reads. -/
module

public import proofs.«01_k».proof.Proof.Gen.KernelIdeal.Frame
public import proofs.«01_k».proof.Proof.Fill

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI Idealize.SL.Sem
open Cert.Rvq

variable {F : FTy → Type} [FloatOps F]

theorem inbCode (g : Fin 16) (h : Fin 2) : ∀ a, (![0, 8 * h.val, 128 * g.val] : Fin 3 → ℕ) a + (![1, 8, 128] : Fin 3 → ℕ) a ≤ S1x16x2048.size a := by
  revert g h; decide +kernel
theorem inbTab (p q : Fin 8) : ∀ a, (![p.val, 0, 128 * q.val] : Fin 3 → ℕ) a + (![1, 8, 128] : Fin 3 → ℕ) a ≤ S8x8x1024.size a := by
  revert p q; decide +kernel
theorem inbOut (g : Fin 16) : ∀ a, (![0, 128 * g.val, 0] : Fin 3 → ℕ) a + (![1, 128, 768] : Fin 3 → ℕ) a ≤ S1x2048x768.size a := by
  revert g; decide +kernel
theorem inbCb (lv : Fin 16) : ∀ a, (![lv.val, 0, 0] : Fin 3 → ℕ) a + (![1, 8, 1024] : Fin 3 → ℕ) a ≤ S16x8x1024.size a := by
  revert lv; decide +kernel
theorem inbPc (lv : Fin 16) : ∀ a, (![lv.val, 0, 0] : Fin 3 → ℕ) a + (![1, 8, 768] : Fin 3 → ℕ) a ≤ S16x8x768.size a := by
  revert lv; decide +kernel
theorem inbPs (lv : Fin 16) : ∀ a, (![lv.val, 0] : Fin 2 → ℕ) a + (![1, 768] : Fin 2 → ℕ) a ≤ S16x768.size a := by
  revert lv; decide +kernel
theorem inbTabRow (lv : Fin 16) (w : Fin 4) : ∀ a, (![lv.val / 8 * 4 + w.val, lv.val % 8, 0] : Fin 3 → ℕ) a + (![1, 1, 1024] : Fin 3 → ℕ) a ≤ S8x8x1024.size a := by
  revert lv w; decide +kernel
theorem inbWf (lv : Fin 16) (w : Fin 4) : ∀ a, (![((lv.val / 8 * 4 + w.val) * 8 + lv.val % 8) * 2, 0] : Fin 2 → ℕ) a + (![2, 768] : Fin 2 → ℕ) a ≤ S128x768.size a := by
  revert lv w; decide +kernel

/-- Rows `8h …` of the codes' block, columns `128g …`. -/
abbrev rCode (g : Fin 16) (h : Fin 2) : Rect S1x16x2048 := Rect.unit ![0, 8 * h.val, 128 * g.val] ![1, 8, 128] (inbCode g h)
/-- Chunk `q` of the table's plane `p`. -/
abbrev rTab (p q : Fin 8) : Rect S8x8x1024 := Rect.unit ![p.val, 0, 128 * q.val] ![1, 8, 128] (inbTab p q)
/-- Group `g`'s rows of the output's block. -/
abbrev rOut (g : Fin 16) : Rect S1x2048x768 := Rect.unit ![0, 128 * g.val, 0] ![1, 128, 768] (inbOut g)
/-- One level's codebook. -/
abbrev rCb (lv : Fin 16) : Rect S16x8x1024 := Rect.unit ![lv.val, 0, 0] ![1, 8, 1024] (inbCb lv)
/-- One level's projection. -/
abbrev rPc (lv : Fin 16) : Rect S16x8x768 := Rect.unit ![lv.val, 0, 0] ![1, 8, 768] (inbPc lv)
/-- One level's scales. -/
abbrev rPs (lv : Fin 16) : Rect S16x768 := Rect.unit ![lv.val, 0] ![1, 768] (inbPs lv)
/-- Where the packed words `w` of a level go. -/
abbrev rTabRow (lv : Fin 16) (w : Fin 4) : Rect S8x8x1024 := Rect.unit ![lv.val / 8 * 4 + w.val, lv.val % 8, 0] ![1, 1, 1024] (inbTabRow lv w)
/-- Where the weight rows `2w`, `2w + 1` of a level go. -/
abbrev rWf (lv : Fin 16) (w : Fin 4) : Rect S128x768 := Rect.unit ![((lv.val / 8 * 4 + w.val) * 8 + lv.val % 8) * 2, 0] ![2, 768] (inbWf lv w)
/-- The whole weight buffer. -/
abbrev rW : Rect S128x768 := Rect.unit ![0, 0] S128x768.size inb_S128x768_S128x768_0_0
/-- The whole bias row. -/
abbrev rB : Rect S1x768 := Rect.unit ![0, 0] S1x768.size inb_S1x768_S1x768_0_0
/-- The whole bias array. -/
abbrev rBias : Rect S16x768 := Rect.unit ![0, 0] S16x768.size inb_S16x768_S16x768_0_0

/-- Group `g`'s block of the output. -/
def pieceAt (w : FVec F T128x768 .bf16) (b : FVec F T1x768 .f32) (code : Fin 16 → Fin 2 → IVec T1x8x128 32)
    (tab : Fin 8 → Fin 8 → IVec T1x8x128 32) (g : Fin 16) : View.Piece (Elt F) S1x2048x768 .bf16 :=
  ⟨rOut g, grpOf w b (code g) tab⟩

/-- The blocks of the packed table, last stored first. -/
def tabPieces (cb : Fin 16 → IVec T1x8x1024 16) : List (View.Piece (Elt F) S8x8x1024 .i32) :=
  [15, 14, 13, 12, 11, 10, 9, 8, 7, 6, 5, 4, 3, 2, 1, 0].flatMap fun lv : Fin 16 => [3, 2, 1, 0].map fun w : Fin 4 =>
    ⟨rTabRow lv w, tabRow (cb lv) w⟩

/-- The blocks of the unmasked weights, last stored first. -/
def wfPieces (pc : Fin 16 → FVec F T1x8x768 .fp8e4m3) (ps : Fin 16 → FVec F T1x768 .f32) : List (View.Piece (Elt F) S128x768 .f32) :=
  [15, 14, 13, 12, 11, 10, 9, 8, 7, 6, 5, 4, 3, 2, 1, 0].flatMap fun lv : Fin 16 => [3, 2, 1, 0].map fun w : Fin 4 =>
    ⟨rWf lv w, wfRows (pc lv) (ps lv) w⟩

/-- The blocks of the output, last stored first. -/
def outPieces (w : FVec F T128x768 .bf16) (b : FVec F T1x768 .f32) (code : Fin 16 → Fin 2 → IVec T1x8x128 32)
    (tab : Fin 8 → Fin 8 → IVec T1x8x128 32) : List (View.Piece (Elt F) S1x2048x768 .bf16) :=
  [15, 14, 13, 12, 11, 10, 9, 8, 7, 6, 5, 4, 3, 2, 1, 0].map (pieceAt w b code tab)

/-- The number of active levels, read from the prefetched table at the grid point's batch. -/
def nAt (c : Dev nD) (i : grid0.Coords) (xt0 : TbBuf0 (F := F) c tbM0_0) : BitVec 32 :=
  View.readAt (Elt F) tbM0_0.view (Rect.unit (s := S56) (k0_off1 i) S1.size (k0_off1_inb i)).toLoadRect xt0
    (Shape.Idx.first (s := S1) (by decide))

variable (c : Dev nD) (i : grid0.Coords) (arg3 : Memref sig .tc .vmem S1x16x2048 .i32) (harg3 : arg3.IsWhole) (arg4 : Memref sig .tc .vmem S16x8x1024 .i16) (harg4 : arg4.IsWhole) (arg5 : Memref sig .tc .vmem S16x8x768 .fp8e4m3) (harg5 : arg5.IsWhole) (arg6 : Memref sig .tc .vmem S16x768 .f32) (harg6 : arg6.IsWhole) (arg7 : Memref sig .tc .vmem S16x768 .f32) (harg7 : arg7.IsWhole) (arg8 : Memref sig .tc .vmem S1x2048x768 .bf16) (harg8 : arg8.IsWhole) (arg9 : Memref sig .tc .vmem S8x8x1024 .i32) (harg9 : arg9.IsWhole) (arg10 : Memref sig .tc .vmem S128x768 .f32) (harg10 : arg10.IsWhole) (arg11 : Memref sig .tc .vmem S128x768 .bf16) (harg11 : arg11.IsWhole) (arg12 : Memref sig .tc .vmem S1x768 .f32) (harg12 : arg12.IsWhole)
    (x0 : Vec F S1x16x2048 .i32) (x1 : Vec F S16x8x1024 .i16) (x2 : Vec F S16x8x768 .fp8e4m3) (x3 : Vec F S16x768 .f32) (x4 : Vec F S16x768 .f32) (xt0 : TbBuf0 (F := F) c tbM0_0) (xs0 : Vec F S8x8x1024 .i32) (xs1 : Vec F S128x768 .f32) (xs2 : Vec F S128x768 .bf16) (xs3 : Vec F S1x768 .f32)

theorem tab_A (hc0 : cond0_0 i) (hc1 : cond0_1 i) :
    (kernelRun0_A c i arg3 harg3 arg4 harg4 arg5 harg5 arg6 harg6 arg7 harg7 arg8 harg8 arg9 harg9 arg10 harg10 arg11 harg11 arg12 harg12 hc0 hc1 x0 x1 x2 x3 x4 xt0).2.1 = tabPieces (fun lv => View.readAt (Elt F) arg4.view (rCb lv).toLoadRect (harg4.unread x1)) := by
  unfold kernelRun0_A
  dsimp only
  sl_kernel_rfl

theorem wf_A (hc0 : cond0_0 i) (hc1 : cond0_1 i) :
    (kernelRun0_A c i arg3 harg3 arg4 harg4 arg5 harg5 arg6 harg6 arg7 harg7 arg8 harg8 arg9 harg9 arg10 harg10 arg11 harg11 arg12 harg12 hc0 hc1 x0 x1 x2 x3 x4 xt0).2.2.1 = wfPieces (fun lv => View.readAt (Elt F) arg5.view (rPc lv).toLoadRect (harg5.unread x2))
      (fun lv => View.readAt (Elt F) arg6.view (rPs lv).toLoadRect (harg6.unread x3)) := by
  unfold kernelRun0_A
  dsimp only
  sl_kernel_rfl

theorem w_A (hc0 : cond0_0 i) (hc1 : cond0_1 i) :
    (kernelRun0_A c i arg3 harg3 arg4 harg4 arg5 harg5 arg6 harg6 arg7 harg7 arg8 harg8 arg9 harg9 arg10 harg10 arg11 harg11 arg12 harg12 hc0 hc1 x0 x1 x2 x3 x4 xt0).2.2.2.1 = [⟨rW, wOf (nAt c i xt0) (arg10.view.readCov (kernelRun0_A c i arg3 harg3 arg4 harg4 arg5 harg5 arg6 harg6 arg7 harg7 arg8 harg8 arg9 harg9 arg10 harg10 arg11 harg11 arg12 harg12 hc0 hc1 x0 x1 x2 x3 x4 xt0).2.2.1 rW.toLoadRect)⟩] := by
  unfold kernelRun0_A
  dsimp only
  sl_kernel_rfl

theorem b_A (hc0 : cond0_0 i) (hc1 : cond0_1 i) :
    (kernelRun0_A c i arg3 harg3 arg4 harg4 arg5 harg5 arg6 harg6 arg7 harg7 arg8 harg8 arg9 harg9 arg10 harg10 arg11 harg11 arg12 harg12 hc0 hc1 x0 x1 x2 x3 x4 xt0).2.2.2.2.1 = [⟨rB, bOf (nAt c i xt0) (View.readAt (Elt F) arg7.view rBias.toLoadRect (harg7.unread x4))⟩] := by
  unfold kernelRun0_A
  dsimp only
  sl_kernel_rfl

theorem w_C (hc0 : ¬cond0_0 i) (hc1 : cond0_1 i) :
    (kernelRun0_C c i arg3 harg3 arg4 harg4 arg5 harg5 arg6 harg6 arg7 harg7 arg8 harg8 arg9 harg9 arg10 harg10 arg11 harg11 arg12 harg12 hc0 hc1 x0 x1 x2 x3 x4 xt0 xs0 xs1).2.2.2.1 = [⟨rW, wOf (nAt c i xt0) (View.readAt (Elt F) arg10.view rW.toLoadRect (harg10.unread xs1))⟩] := by
  unfold kernelRun0_C
  dsimp only
  sl_kernel_rfl

theorem b_C (hc0 : ¬cond0_0 i) (hc1 : cond0_1 i) :
    (kernelRun0_C c i arg3 harg3 arg4 harg4 arg5 harg5 arg6 harg6 arg7 harg7 arg8 harg8 arg9 harg9 arg10 harg10 arg11 harg11 arg12 harg12 hc0 hc1 x0 x1 x2 x3 x4 xt0 xs0 xs1).2.2.2.2.1 = [⟨rB, bOf (nAt c i xt0) (View.readAt (Elt F) arg7.view rBias.toLoadRect (harg7.unread x4))⟩] := by
  unfold kernelRun0_C
  dsimp only
  sl_kernel_rfl

theorem out_A (hc0 : cond0_0 i) (hc1 : cond0_1 i) :
    (kernelRun0_A c i arg3 harg3 arg4 harg4 arg5 harg5 arg6 harg6 arg7 harg7 arg8 harg8 arg9 harg9 arg10 harg10 arg11 harg11 arg12 harg12 hc0 hc1 x0 x1 x2 x3 x4 xt0).1 = outPieces (arg11.view.readCov (kernelRun0_A c i arg3 harg3 arg4 harg4 arg5 harg5 arg6 harg6 arg7 harg7 arg8 harg8 arg9 harg9 arg10 harg10 arg11 harg11 arg12 harg12 hc0 hc1 x0 x1 x2 x3 x4 xt0).2.2.2.1 rW.toLoadRect) (arg12.view.readCov (kernelRun0_A c i arg3 harg3 arg4 harg4 arg5 harg5 arg6 harg6 arg7 harg7 arg8 harg8 arg9 harg9 arg10 harg10 arg11 harg11 arg12 harg12 hc0 hc1 x0 x1 x2 x3 x4 xt0).2.2.2.2.1 rB.toLoadRect)
      (fun g h => View.readAt (Elt F) arg3.view (rCode g h).toLoadRect (harg3.unread x0))
      (fun p q => arg9.view.readCov (kernelRun0_A c i arg3 harg3 arg4 harg4 arg5 harg5 arg6 harg6 arg7 harg7 arg8 harg8 arg9 harg9 arg10 harg10 arg11 harg11 arg12 harg12 hc0 hc1 x0 x1 x2 x3 x4 xt0).2.1 (rTab p q).toLoadRect) := by
  unfold kernelRun0_A
  dsimp only
  sl_kernel_rfl

theorem out_B (hc0 : ¬cond0_0 i) (hc1 : ¬cond0_1 i) :
    (kernelRun0_B c i arg3 harg3 arg4 harg4 arg5 harg5 arg6 harg6 arg7 harg7 arg8 harg8 arg9 harg9 arg10 harg10 arg11 harg11 arg12 harg12 hc0 hc1 x0 x1 x2 x3 x4 xt0 xs0 xs1 xs2 xs3).1 = outPieces (View.readAt (Elt F) arg11.view rW.toLoadRect (harg11.unread xs2)) (View.readAt (Elt F) arg12.view rB.toLoadRect (harg12.unread xs3))
      (fun g h => View.readAt (Elt F) arg3.view (rCode g h).toLoadRect (harg3.unread x0))
      (fun p q => View.readAt (Elt F) arg9.view (rTab p q).toLoadRect (harg9.unread xs0)) := by
  unfold kernelRun0_B
  dsimp only
  sl_kernel_rfl

theorem out_C (hc0 : ¬cond0_0 i) (hc1 : cond0_1 i) :
    (kernelRun0_C c i arg3 harg3 arg4 harg4 arg5 harg5 arg6 harg6 arg7 harg7 arg8 harg8 arg9 harg9 arg10 harg10 arg11 harg11 arg12 harg12 hc0 hc1 x0 x1 x2 x3 x4 xt0 xs0 xs1).1 = outPieces (arg11.view.readCov (kernelRun0_C c i arg3 harg3 arg4 harg4 arg5 harg5 arg6 harg6 arg7 harg7 arg8 harg8 arg9 harg9 arg10 harg10 arg11 harg11 arg12 harg12 hc0 hc1 x0 x1 x2 x3 x4 xt0 xs0 xs1).2.2.2.1 rW.toLoadRect) (arg12.view.readCov (kernelRun0_C c i arg3 harg3 arg4 harg4 arg5 harg5 arg6 harg6 arg7 harg7 arg8 harg8 arg9 harg9 arg10 harg10 arg11 harg11 arg12 harg12 hc0 hc1 x0 x1 x2 x3 x4 xt0 xs0 xs1).2.2.2.2.1 rB.toLoadRect)
      (fun g h => View.readAt (Elt F) arg3.view (rCode g h).toLoadRect (harg3.unread x0))
      (fun p q => View.readAt (Elt F) arg9.view (rTab p q).toLoadRect (harg9.unread xs0)) := by
  unfold kernelRun0_C
  dsimp only
  sl_kernel_rfl

end Cert.KernelIdeal.Gen
end
-- ==== Proof.Step.lean ====
/- What one grid point leaves in the output's block and in the four scratch buffers, in each of the kernel's three cases, as
   functions of the blocks and scratch contents it reads. -/
module

public import proofs.«01_k».proof.Proof.Pieces
public import Idealize.ShloMosaic.Lib.Pipeline.ValueKit.Geometry
public import Idealize.ShloMosaic.Lib.Pipeline.ValueKit.Tiles

@[expose] public section

set_option maxRecDepth 16384

noncomputable section

namespace Cert.KernelIdeal.Gen

open Idealize.ShloMosaic hiding ix0 ix1 ix2 ix3 ix4 ix5
open Idealize.ShloMosaic.ValueIdx
open Idealize.ShloMosaic.TcCoe Idealize.ShloMosaic.Tactic
open Idealize.SL Idealize.SL.RA Idealize.SL.BI Idealize.SL.Sem
open Cert.Rvq

variable {F : FTy → Type} [FloatOps F]

/-- The packed table of the codebooks: plane `4h + w`, row `s` holds the words `w` of level `8h + s`. -/
def tabOf (x1 : Vec F S16x8x1024 .i16) : Vec F S8x8x1024 .i32 := fun y =>
  tabRow (View.ld x1 (rCb ⟨(y 0).val / 4 * 8 + (y 1).val, by have h0 : (y 0).val < 8 := (y 0).isLt; have h1 : (y 1).val < 8 := (y 1).isLt; omega⟩))
    ⟨(y 0).val % 4, Nat.mod_lt _ (by decide)⟩ (ix3 0 0 (y 2))

/-- The unmasked weights: row `k` is entry `lvOf k`, `enOf k`. -/
def wfOf (x2 : Vec F S16x8x768 .fp8e4m3) (x3 : Vec F S16x768 .f32) : Vec F S128x768 .f32 := fun y =>
  wfRows (View.ld x2 (rPc (lvOf (y 0)))) (View.ld x3 (rPs (lvOf (y 0))))
    ⟨(y 0).val / 16 % 4, Nat.mod_lt _ (by decide)⟩ (ix2 ⟨(y 0).val % 2, Nat.mod_lt _ (by decide)⟩ (y 1))

/-- The output's block: its rows in groups of 128. -/
def outOf (x0 : Vec F S1x16x2048 .i32) (tab : Vec F S8x8x1024 .i32) (w : Vec F S128x768 .bf16) (b : Vec F S1x768 .f32) :
    Vec F S1x2048x768 .bf16 := fun y =>
  grpOf w b (fun h => View.ld x0 (rCode ⟨(y 1).val / 128, by have h1 : (y 1).val < 2048 := (y 1).isLt; omega⟩ h))
    (fun p q => View.ld tab (rTab p q)) (ix3 0 ⟨(y 1).val % 128, Nat.mod_lt _ (by decide)⟩ (y 2))

theorem emb_val {s : Shape} (off size : Fin s.rank → ℕ) (inb : ∀ a, off a + size a ≤ s.size a)
    (j : (Rect.unit off size inb).shape.Idx) (a : Fin s.rank) : ((Rect.unit off size inb).emb j a : ℕ) = off a + (j a).val :=
  ValueKit.rect_emb_unit_val off size inb j a

/-- Two indices with equal coordinates are equal. -/
theorem idx3_ext {a b c : ℕ} (x y : Shape.Idx ⟨3, ![a, b, c]⟩) (h0 : (x 0).val = (y 0).val) (h1 : (x 1).val = (y 1).val)
    (h2 : (x 2).val = (y 2).val) : x = y := by
  funext t
  match t with
  | ⟨0, _⟩ => exact Fin.ext h0
  | ⟨1, _⟩ => exact Fin.ext h1
  | ⟨2, _⟩ => exact Fin.ext h2

theorem idx2_ext {a b : ℕ} (x y : Shape.Idx ⟨2, ![a, b]⟩) (h0 : (x 0).val = (y 0).val) (h1 : (x 1).val = (y 1).val) : x = y := by
  funext t
  match t with
  | ⟨0, _⟩ => exact Fin.ext h0
  | ⟨1, _⟩ => exact Fin.ext h1

theorem canon_tab (x1 : Vec F S16x8x1024 .i16) : View.canon (tabPieces (F := F) fun lv => View.ld x1 (rCb lv)) = tabOf x1 := by
  funext y
  refine View.canon_apply_of_pieces (tabOf x1) _ ?_ y (View.cover_of_tiledL (tabPieces (F := F) fun lv => View.ld x1 (rCb lv)) S1x1x1024.size (by sl_kernel_rfl) y)
  intro p hp j
  simp only [tabPieces, List.mem_flatMap, List.mem_map] at hp
  obtain ⟨lv, -, w, -, rfl⟩ := hp
  have e0 : ((rTabRow lv w).emb j 0 : ℕ) = lv.val / 8 * 4 + w.val := by
    have h := emb_val (s := S8x8x1024) ![lv.val / 8 * 4 + w.val, lv.val % 8, 0] ![1, 1, 1024] (inbTabRow lv w) j 0
    have hj : (j 0).val < 1 := (j 0).isLt
    refine h.trans ?_; show lv.val / 8 * 4 + w.val + (j 0).val = _; omega
  have e1 : ((rTabRow lv w).emb j 1 : ℕ) = lv.val % 8 := by
    have h := emb_val (s := S8x8x1024) ![lv.val / 8 * 4 + w.val, lv.val % 8, 0] ![1, 1, 1024] (inbTabRow lv w) j 1
    have hj : (j 1).val < 1 := (j 1).isLt
    refine h.trans ?_; show lv.val % 8 + (j 1).val = _; omega
  have e2 : ((rTabRow lv w).emb j 2 : ℕ) = (j 2).val := by
    have h := emb_val (s := S8x8x1024) ![lv.val / 8 * 4 + w.val, lv.val % 8, 0] ![1, 1, 1024] (inbTabRow lv w) j 2
    refine h.trans ?_; show 0 + (j 2).val = _; omega
  have hw : w.val < 4 := w.isLt
  have hj0 : (j 0).val < 1 := (j 0).isLt
  have hj1 : (j 1).val < 1 := (j 1).isLt
  have hlv : (⟨((rTabRow lv w).emb j 0).val / 4 * 8 + ((rTabRow lv w).emb j 1).val, by rw [e0, e1]; omega⟩ : Fin 16) = lv :=
    Fin.ext (by show ((rTabRow lv w).emb j 0).val / 4 * 8 + ((rTabRow lv w).emb j 1).val = _; rw [e0, e1]; omega)
  have hw' : (⟨((rTabRow lv w).emb j 0).val % 4, Nat.mod_lt _ (by decide)⟩ : Fin 4) = w :=
    Fin.ext (by show ((rTabRow lv w).emb j 0).val % 4 = _; rw [e0]; omega)
  show tabRow (View.ld x1 (rCb lv)) w j = tabRow (View.ld x1 (rCb ⟨_, _⟩)) ⟨_, _⟩ (ix3 0 0 ((rTabRow lv w).emb j 2))
  rw [hlv, hw']
  refine congrArg _ (idx3_ext (a := 1) (b := 1) (c := 1024) _ _ ?_ ?_ ?_)
  · show (j 0).val = 0; omega
  · show (j 1).val = 0; omega
  · exact e2.symm

theorem canon_wf (x2 : Vec F S16x8x768 .fp8e4m3) (x3 : Vec F S16x768 .f32) :
    View.canon (wfPieces (F := F) (fun lv => View.ld x2 (rPc lv)) (fun lv => View.ld x3 (rPs lv))) = wfOf x2 x3 := by
  funext y
  refine View.canon_apply_of_pieces (wfOf x2 x3) _ ?_ y (View.cover_of_tiledL (wfPieces (F := F) (fun lv => View.ld x2 (rPc lv)) (fun lv => View.ld x3 (rPs lv))) S2x768.size (by sl_kernel_rfl) y)
  intro p hp j
  simp only [wfPieces, List.mem_flatMap, List.mem_map] at hp
  obtain ⟨lv, -, w, -, rfl⟩ := hp
  have hw : w.val < 4 := w.isLt
  have hj0 : (j 0).val < 2 := (j 0).isLt
  have e0 : ((rWf lv w).emb j 0 : ℕ) = ((lv.val / 8 * 4 + w.val) * 8 + lv.val % 8) * 2 + (j 0).val :=
    emb_val (s := S128x768) ![((lv.val / 8 * 4 + w.val) * 8 + lv.val % 8) * 2, 0] ![2, 768] (inbWf lv w) j 0
  have e1 : ((rWf lv w).emb j 1 : ℕ) = (j 1).val := by
    have h := emb_val (s := S128x768) ![((lv.val / 8 * 4 + w.val) * 8 + lv.val % 8) * 2, 0] ![2, 768] (inbWf lv w) j 1
    refine h.trans ?_; show 0 + (j 1).val = _; omega
  have hlv : lvOf ((rWf lv w).emb j 0) = lv := Fin.ext (by
    show ((rWf lv w).emb j 0).val / 64 * 8 + ((rWf lv w).emb j 0).val / 2 % 8 = _
    rw [e0]; omega)
  have hw' : (⟨((rWf lv w).emb j 0).val / 16 % 4, Nat.mod_lt _ (by decide)⟩ : Fin 4) = w :=
    Fin.ext (by show ((rWf lv w).emb j 0).val / 16 % 4 = _; rw [e0]; omega)
  show wfRows (View.ld x2 (rPc lv)) (View.ld x3 (rPs lv)) w j = wfRows (View.ld x2 (rPc (lvOf ((rWf lv w).emb j 0)))) (View.ld x3 (rPs (lvOf ((rWf lv w).emb j 0)))) ⟨_, _⟩ (ix2 ⟨((rWf lv w).emb j 0).val % 2, _⟩ ((rWf lv w).emb j 1))
  rw [hlv, hw']
  refine congrArg _ (idx2_ext (a := 2) (b := 768) _ _ ?_ ?_)
  · show (j 0).val = ((rWf lv w).emb j 0).val % 2; rw [e0]; omega
  · exact e1.symm

theorem canon_out (x0 : Vec F S1x16x2048 .i32) (tab : Vec F S8x8x1024 .i32) (w : Vec F S128x768 .bf16) (b : Vec F S1x768 .f32) :
    View.canon (outPieces (F := F) w b (fun g h => View.ld x0 (rCode g h)) (fun p q => View.ld tab (rTab p q))) = outOf x0 tab w b := by
  funext y
  refine View.canon_apply_of_pieces (outOf x0 tab w b) _ ?_ y (View.cover_of_tiledL (outPieces (F := F) w b (fun g h => View.ld x0 (rCode g h)) (fun p q => View.ld tab (rTab p q))) S1x128x768.size (by sl_kernel_rfl) y)
  intro p hp j
  simp only [outPieces, List.mem_map] at hp
  obtain ⟨g, -, rfl⟩ := hp
  have hj0 : (j 0).val < 1 := (j 0).isLt
  have hj1 : (j 1).val < 128 := (j 1).isLt
  have e1 : ((rOut g).emb j 1 : ℕ) = 128 * g.val + (j 1).val :=
    emb_val (s := S1x2048x768) ![0, 128 * g.val, 0] ![1, 128, 768] (inbOut g) j 1
  have e2 : ((rOut g).emb j 2 : ℕ) = (j 2).val := by
    have h := emb_val (s := S1x2048x768) ![0, 128 * g.val, 0] ![1, 128, 768] (inbOut g) j 2
    refine h.trans ?_; show 0 + (j 2).val = _; omega
  have hg : (⟨((rOut g).emb j 1).val / 128, by rw [e1]; omega⟩ : Fin 16) = g :=
    Fin.ext (by show ((rOut g).emb j 1).val / 128 = _; rw [e1]; omega)
  have key : ∀ g' : Fin 16, g' = g → ∀ j' : S1x128x768.Idx, j' = j →
      grpOf w b (fun h => View.ld x0 (rCode g h)) (fun p q => View.ld tab (rTab p q)) j
        = grpOf w b (fun h => View.ld x0 (rCode g' h)) (fun p q => View.ld tab (rTab p q)) j' := by
    rintro _ rfl _ rfl; rfl
  refine key _ hg (ix3 0 ⟨((rOut g).emb j 1).val % 128, Nat.mod_lt _ (by decide)⟩ ((rOut g).emb j 2)) (idx3_ext (a := 1) (b := 128) (c := 768) _ _ ?_ ?_ ?_)
  · show 0 = (j 0).val; omega
  · show ((rOut g).emb j 1).val % 128 = (j 1).val; rw [e1]; omega
  · exact e2

theorem z2 : (![0, 0] : Fin 2 → ℕ) = fun _ => 0 := by
  funext a
  match a with
  | ⟨0, _⟩ => rfl
  | ⟨1, _⟩ => rfl

theorem ld_rW {e : EltTy} (X : Vec F S128x768 e) : View.ld X rW = X := View.ld_unit_zero z2 _ X
theorem ld_rB {e : EltTy} (X : Vec F S1x768 e) : View.ld X rB = X := View.ld_unit_zero z2 _ X
theorem ld_rBias {e : EltTy} (X : Vec F S16x768 e) : View.ld X rBias = X := View.ld_unit_zero z2 _ X
theorem canon_rW {e : EltTy} (X : Vec F S128x768 e) : View.canon [(⟨rW, X⟩ : View.Piece (Elt F) S128x768 e)] = X :=
  View.canon_cons_unit_zero z2 _ X _
theorem canon_rB {e : EltTy} (X : Vec F S1x768 e) : View.canon [(⟨rB, X⟩ : View.Piece (Elt F) S1x768 e)] = X :=
  View.canon_cons_unit_zero z2 _ X _

theorem readCov_ld {sg : RefSig} {κ : Kind} {sp : Space} {s : Shape} {e : EltTy} (v : View sg κ sp s e) (L : List (View.Piece (Elt F) s e)) (r : Rect s) :
    v.readCov L r.toLoadRect = View.ld (View.canon L) r := View.readCov_eq_canon' v L r

variable (c : Dev nD) (i : grid0.Coords) (arg3 : Memref sig .tc .vmem S1x16x2048 .i32) (harg3 : arg3.IsWhole) (arg4 : Memref sig .tc .vmem S16x8x1024 .i16) (harg4 : arg4.IsWhole) (arg5 : Memref sig .tc .vmem S16x8x768 .fp8e4m3) (harg5 : arg5.IsWhole) (arg6 : Memref sig .tc .vmem S16x768 .f32) (harg6 : arg6.IsWhole) (arg7 : Memref sig .tc .vmem S16x768 .f32) (harg7 : arg7.IsWhole) (arg8 : Memref sig .tc .vmem S1x2048x768 .bf16) (harg8 : arg8.IsWhole) (arg9 : Memref sig .tc .vmem S8x8x1024 .i32) (harg9 : arg9.IsWhole) (arg10 : Memref sig .tc .vmem S128x768 .f32) (harg10 : arg10.IsWhole) (arg11 : Memref sig .tc .vmem S128x768 .bf16) (harg11 : arg11.IsWhole) (arg12 : Memref sig .tc .vmem S1x768 .f32) (harg12 : arg12.IsWhole)
    (x0 : Vec F S1x16x2048 .i32) (x1 : Vec F S16x8x1024 .i16) (x2 : Vec F S16x8x768 .fp8e4m3) (x3 : Vec F S16x768 .f32) (x4 : Vec F S16x768 .f32) (xt0 : TbBuf0 (F := F) c tbM0_0) (xs0 : Vec F S8x8x1024 .i32) (xs1 : Vec F S128x768 .f32) (xs2 : Vec F S128x768 .bf16) (xs3 : Vec F S1x768 .f32)

theorem sout0_A_0_eq (hc0 : cond0_0 i) (hc1 : cond0_1 i) :
    sout0_A_0 c i arg3 harg3 arg4 harg4 arg5 harg5 arg6 harg6 arg7 harg7 arg8 harg8 arg9 harg9 arg10 harg10 arg11 harg11 arg12 harg12 hc0 hc1 x0 x1 x2 x3 x4 xt0 = tabOf x1 := by
  unfold sout0_A_0
  rw [View.read_writes_junk_eq_canon, tab_A]
  simp only [View.readAt_eq_ld, harg4.read_unread]
  exact canon_tab x1

theorem sout0_A_1_eq (hc0 : cond0_0 i) (hc1 : cond0_1 i) :
    sout0_A_1 c i arg3 harg3 arg4 harg4 arg5 harg5 arg6 harg6 arg7 harg7 arg8 harg8 arg9 harg9 arg10 harg10 arg11 harg11 arg12 harg12 hc0 hc1 x0 x1 x2 x3 x4 xt0 = wfOf x2 x3 := by
  unfold sout0_A_1
  rw [View.read_writes_junk_eq_canon, wf_A]
  simp only [View.readAt_eq_ld, harg5.read_unread, harg6.read_unread]
  exact canon_wf x2 x3

theorem sout0_A_2_eq (hc0 : cond0_0 i) (hc1 : cond0_1 i) :
    sout0_A_2 c i arg3 harg3 arg4 harg4 arg5 harg5 arg6 harg6 arg7 harg7 arg8 harg8 arg9 harg9 arg10 harg10 arg11 harg11 arg12 harg12 hc0 hc1 x0 x1 x2 x3 x4 xt0 = wOf (nAt c i xt0) (wfOf x2 x3) := by
  unfold sout0_A_2
  rw [View.read_writes_junk_eq_canon, w_A, readCov_ld, wf_A]
  simp only [View.readAt_eq_ld, harg5.read_unread, harg6.read_unread, canon_wf, ld_rW]
  exact canon_rW _

theorem sout0_A_3_eq (hc0 : cond0_0 i) (hc1 : cond0_1 i) :
    sout0_A_3 c i arg3 harg3 arg4 harg4 arg5 harg5 arg6 harg6 arg7 harg7 arg8 harg8 arg9 harg9 arg10 harg10 arg11 harg11 arg12 harg12 hc0 hc1 x0 x1 x2 x3 x4 xt0 = bOf (nAt c i xt0) x4 := by
  unfold sout0_A_3
  rw [View.read_writes_junk_eq_canon, b_A]
  simp only [View.readAt_eq_ld, harg7.read_unread, ld_rBias]
  exact canon_rB _

theorem sout0_C_2_eq (hc0 : ¬cond0_0 i) (hc1 : cond0_1 i) :
    sout0_C_2 c i arg3 harg3 arg4 harg4 arg5 harg5 arg6 harg6 arg7 harg7 arg8 harg8 arg9 harg9 arg10 harg10 arg11 harg11 arg12 harg12 hc0 hc1 x0 x1 x2 x3 x4 xt0 xs0 xs1 = wOf (nAt c i xt0) xs1 := by
  unfold sout0_C_2
  rw [View.read_writes_junk_eq_canon, w_C]
  simp only [View.readAt_eq_ld, harg10.read_unread, ld_rW]
  exact canon_rW _

theorem sout0_C_3_eq (hc0 : ¬cond0_0 i) (hc1 : cond0_1 i) :
    sout0_C_3 c i arg3 harg3 arg4 harg4 arg5 harg5 arg6 harg6 arg7 harg7 arg8 harg8 arg9 harg9 arg10 harg10 arg11 harg11 arg12 harg12 hc0 hc1 x0 x1 x2 x3 x4 xt0 xs0 xs1 = bOf (nAt c i xt0) x4 := by
  unfold sout0_C_3
  rw [View.read_writes_junk_eq_canon, b_C]
  simp only [View.readAt_eq_ld, harg7.read_unread, ld_rBias]
  exact canon_rB _

theorem out0_A_5_eq (hc0 : cond0_0 i) (hc1 : cond0_1 i) :
    out0_A_5 c i arg3 harg3 arg4 harg4 arg5 harg5 arg6 harg6 arg7 harg7 arg8 harg8 arg9 harg9 arg10 harg10 arg11 harg11 arg12 harg12 hc0 hc1 x0 x1 x2 x3 x4 xt0 = outOf x0 (tabOf x1) (wOf (nAt c i xt0) (wfOf x2 x3)) (bOf (nAt c i xt0) x4) := by
  unfold out0_A_5
  rw [View.read_writes_junk_eq_canon, out_A]
  simp only [readCov_ld, tab_A, w_A, wf_A, b_A, View.readAt_eq_ld, harg3.read_unread, harg4.read_unread, harg5.read_unread, harg6.read_unread, harg7.read_unread, canon_tab, canon_wf, ld_rW, ld_rB, ld_rBias, canon_rW, canon_rB]
  exact canon_out _ _ _ _

theorem out0_B_5_eq (hc0 : ¬cond0_0 i) (hc1 : ¬cond0_1 i) :
    out0_B_5 c i arg3 harg3 arg4 harg4 arg5 harg5 arg6 harg6 arg7 harg7 arg8 harg8 arg9 harg9 arg10 harg10 arg11 harg11 arg12 harg12 hc0 hc1 x0 x1 x2 x3 x4 xt0 xs0 xs1 xs2 xs3 = outOf x0 xs0 xs2 xs3 := by
  unfold out0_B_5
  rw [View.read_writes_junk_eq_canon, out_B]
  simp only [View.readAt_eq_ld, harg3.read_unread, harg9.read_unread, harg11.read_unread, harg12.read_unread, ld_rW, ld_rB]
  exact canon_out _ _ _ _

theorem out0_C_5_eq (hc0 : ¬cond0_0 i) (hc1 : cond0_1 i) :
    out0_C_5 c i arg3 harg3 arg4 harg4 arg5 harg5 arg6 harg6 arg7 harg7 arg8 harg8 arg9 harg9 arg10 harg10 arg11 harg11 arg12 harg12 hc0 hc1 x0 x1 x2 x3 x4 xt0 xs0 xs1 = outOf x0 xs0 (wOf (nAt c i xt0) xs1) (bOf (nAt c i xt0) x4) := by
  unfold out0_C_5
  rw [View.read_writes_junk_eq_canon, out_C]
  simp only [readCov_ld, w_C, b_C, View.readAt_eq_ld, harg3.read_unread, harg7.read_unread, harg9.read_unread, harg10.read_unread, ld_rW, ld_rB, ld_rBias, canon_rW, canon_rB]
  exact canon_out _ _ _ _

end Cert.KernelIdeal.Gen
end
-- ==== Proof.Block.lean ====
/- The output's block of a grid point over the extended reals, from the blocks of the inputs: each row's looked-up entries
   times the active levels' weights, plus the active levels' biases. -/
module

public import proofs.«01_k».proof.Proof.Step

@[expose] public section

set_option maxRecDepth 16384

noncomputable section

namespace Cert.KernelIdeal.Gen

open Idealize.ShloMosaic hiding ix0 ix1 ix2 ix3 ix4 ix5
open Idealize.ShloMosaic.ValueIdx
open Cert.Rvq

/-- One word of the packed table: two neighbouring entries of a level's codebook. -/
theorem tabOf_apply (x1 : Vec Ideal S16x8x1024 .i16) (p s : Fin 8) (l : Fin 1024) (lv : Fin 16) (hlv : lv.val = p.val / 4 * 8 + s.val) :
    (tabOf (F := Ideal) x1 (ix3 p s l) : BitVec 32) =
      ((x1 (ix3 lv ⟨2 * (p.val % 4) + 1, by omega⟩ l) : BitVec 16) ++ (x1 (ix3 lv ⟨2 * (p.val % 4), by omega⟩ l) : BitVec 16)) := by
  have hb : ∀ p s : Fin 8, p.val / 4 * 8 + s.val < 16 := fun p s => by omega
  obtain rfl : lv = ⟨p.val / 4 * 8 + s.val, hb p s⟩ := Fin.ext hlv
  refine (tabRow_apply _ ⟨p.val % 4, Nat.mod_lt _ (by decide)⟩ l).trans ?_
  refine congrArg₂ (fun (x y : BitVec 16) => x ++ y) ?_ ?_
  · refine View.ld_unit_apply_of x1 _ _ _ _ _ ?_
    intro a
    match a with
    | ⟨0, _⟩ => rfl
    | ⟨1, _⟩ => exact (Nat.zero_add _).symm
    | ⟨2, _⟩ => exact (Nat.zero_add _).symm
  · refine View.ld_unit_apply_of x1 _ _ _ _ _ ?_
    intro a
    match a with
    | ⟨0, _⟩ => rfl
    | ⟨1, _⟩ => exact (Nat.zero_add _).symm
    | ⟨2, _⟩ => exact (Nat.zero_add _).symm

/-- A chunk of the table, read at a lane. -/
theorem chunk_apply (T : Vec Ideal S8x8x1024 .i32) (p q : Fin 8) (s : Fin 8) (l : Fin 128) (y : Fin 1024) (hy : y.val = 128 * q.val + l.val) :
    View.ld T (rTab p q) (ix3 0 s l) = T (ix3 p s y) := by
  refine View.ld_unit_apply_of T _ _ _ _ _ ?_
  intro a
  match a with
  | ⟨0, _⟩ => rfl
  | ⟨1, _⟩ => exact (Nat.zero_add _).symm
  | ⟨2, _⟩ => exact hy

/-- The codes of a group, read at a row and a lane. -/
theorem code_apply (x0 : Vec Ideal S1x16x2048 .i32) (g : Fin 16) (h : Fin 2) (s : Fin 8) (r : Fin 128) (lv : Fin 16) (hlv : lv.val = h.val * 8 + s.val) :
    shapeCast T8x128 (View.ld x0 (rCode g h) : IVec T1x8x128 32) sc_1x8x128 (ix2 s r) = x0 (ix3 0 lv ⟨128 * g.val + r.val, by omega⟩) := by
  rw [shapeCast_apply _ sc_1x8x128 (ix2 s r) (ix3 0 s r)
    (by rw [Shape.rowMajor_val_three, Shape.rowMajor_val_two]; show (0 * 8 + s.val) * 128 + r.val = s.val * 128 + r.val; omega)]
  refine View.ld_unit_apply_of x0 _ _ _ _ _ ?_
  intro a
  match a with
  | ⟨0, _⟩ => rfl
  | ⟨1, _⟩ => show lv.val = 8 * h.val + s.val; omega
  | ⟨2, _⟩ => rfl

/-- One part's entry: the entry of its level's codebook that the row's code names. -/
theorem part_val (x0 : Vec Ideal S1x16x2048 .i32) (x1 : Vec Ideal S16x8x1024 .i16) (hc : ∀ i, (x0 i : BitVec 32).toNat < 1024)
    (g : Fin 16) (p : Fin 8) (q : Fin 16) (r : Fin 128) (h : Fin 2) (hh : h.val = p.val / 4) (lv : Fin 16) (hlv : lv.val = p.val / 4 * 8 + q.val / 2)
    (e : Fin 8) (he : e.val = p.val % 4 * 2 + q.val % 2) :
    part (F := Ideal) (View.ld x0 (rCode g h)) (View.ld (tabOf x1) (rTab p 0)) (View.ld (tabOf x1) (rTab p 1)) (View.ld (tabOf x1) (rTab p 2))
        (View.ld (tabOf x1) (rTab p 3)) (View.ld (tabOf x1) (rTab p 4)) (View.ld (tabOf x1) (rTab p 5)) (View.ld (tabOf x1) (rTab p 6))
        (View.ld (tabOf x1) (rTab p 7)) (ix2 q r)
      = Ideal.ofBits .bf16 (x1 (ix3 lv e (rowOf (x0 (ix3 0 lv ⟨128 * g.val + r.val, by omega⟩))))) := by
  have hcode := code_apply x0 g h ⟨q.val / 2, by omega⟩ r lv (by show lv.val = h.val * 8 + q.val / 2; omega)
  have hlt : (shapeCast T8x128 (View.ld x0 (rCode g h) : IVec T1x8x128 32) sc_1x8x128 (ix2 ⟨q.val / 2, by omega⟩ r)).toNat < 1024 := by
    rw [hcode]; exact hc _
  rw [part_apply]
  unfold half
  rw [pick_apply _ _ _ _ _ _ _ _ _ ⟨q.val / 2, by omega⟩ r (fun l => tabOf (F := Ideal) x1 (ix3 p ⟨q.val / 2, by omega⟩ l)) hlt
    (fun l => chunk_apply _ p 0 _ l _ (by show l.val = 128 * 0 + l.val; omega))
    (fun l => chunk_apply _ p 1 _ l _ rfl) (fun l => chunk_apply _ p 2 _ l _ rfl) (fun l => chunk_apply _ p 3 _ l _ rfl)
    (fun l => chunk_apply _ p 4 _ l _ rfl) (fun l => chunk_apply _ p 5 _ l _ rfl) (fun l => chunk_apply _ p 6 _ l _ rfl)
    (fun l => chunk_apply _ p 7 _ l _ rfl)]
  rw [tabOf_apply x1 p ⟨q.val / 2, by omega⟩ _ lv hlv]
  refine congrArg (Ideal.ofBits .bf16) ?_
  refine (half_append (_, _) (q.val % 2) (by omega)).trans ?_
  have hrow : (⟨(shapeCast T8x128 (View.ld x0 (rCode g h) : IVec T1x8x128 32) sc_1x8x128 (ix2 ⟨q.val / 2, by omega⟩ r)).toNat, hlt⟩ : Fin 1024)
      = rowOf (x0 (ix3 0 lv ⟨128 * g.val + r.val, by omega⟩)) :=
    Fin.ext (by
      show (shapeCast T8x128 (View.ld x0 (rCode g h) : IVec T1x8x128 32) sc_1x8x128 (ix2 ⟨q.val / 2, by omega⟩ r)).toNat
        = (x0 (ix3 0 lv ⟨128 * g.val + r.val, by omega⟩) : BitVec 32).toNat % 1024
      rw [hcode, Nat.mod_eq_of_lt (hc _)])
  rw [hrow]
  split
  · exact congrArg (fun z => x1 (ix3 lv z _)) (Fin.ext (by show 2 * (p.val % 4) + 1 = e.val; omega))
  · exact congrArg (fun z => x1 (ix3 lv z _)) (Fin.ext (by show 2 * (p.val % 4) = e.val; omega))

/-- The unmasked weights at an index. -/
theorem wfOf_apply (x2 : Vec Ideal S16x8x768 .fp8e4m3) (x3 : Vec Ideal S16x768 .f32) (k : Fin 128) (d : Fin 768) :
    wfOf (F := Ideal) x2 x3 (ix2 k d) = (x2 (ix3 (lvOf k) (enOf k) d) * x3 (ix2 (lvOf k) d) : EReal) := by
  refine (wfRows_apply _ _ ⟨k.val / 16 % 4, Nat.mod_lt _ (by decide)⟩ ⟨k.val % 2, Nat.mod_lt _ (by decide)⟩ d).trans ?_
  refine congrArg₂ (fun x y : EReal => x * y) ?_ ?_
  · refine View.ld_unit_apply_of x2 _ _ _ _ _ ?_
    intro a
    match a with
    | ⟨0, _⟩ => rfl
    | ⟨1, _⟩ => show k.val / 16 % 4 * 2 + k.val % 2 = 0 + (2 * (k.val / 16 % 4) + k.val % 2); omega
    | ⟨2, _⟩ => exact (Nat.zero_add _).symm
  · refine View.ld_unit_apply_of x3 _ _ _ _ _ ?_
    intro a
    match a with
    | ⟨0, _⟩ => rfl
    | ⟨1, _⟩ => exact (Nat.zero_add _).symm

/-- A group's product, as a sum over the 128 packed columns. -/
theorem grpOf_apply (w : FVec Ideal T128x768 .bf16) (b : FVec Ideal T1x768 .f32) (code : Fin 2 → IVec T1x8x128 32)
    (tab : Fin 8 → Fin 8 → IVec T1x8x128 32) (r : Fin 128) (d : Fin 768) :
    grpOf (F := Ideal) w b code tab (ix3 0 r d) =
      (∑ k : Fin 128, (part (F := Ideal) (code ⟨k.val / 16 / 4, by omega⟩) (tab ⟨k.val / 16, by omega⟩ 0) (tab ⟨k.val / 16, by omega⟩ 1)
        (tab ⟨k.val / 16, by omega⟩ 2) (tab ⟨k.val / 16, by omega⟩ 3) (tab ⟨k.val / 16, by omega⟩ 4) (tab ⟨k.val / 16, by omega⟩ 5)
        (tab ⟨k.val / 16, by omega⟩ 6) (tab ⟨k.val / 16, by omega⟩ 7) (ix2 ⟨k.val % 16, Nat.mod_lt _ (by decide)⟩ r) : EReal)
          * w (ix2 k d)) + b (ix2 0 d) := by
  let P : Fin 8 → FVec Ideal T16x128 .bf16 := fun p => part (F := Ideal) (code ⟨p.val / 4, by omega⟩) (tab p 0) (tab p 1) (tab p 2) (tab p 3)
    (tab p 4) (tab p 5) (tab p 6) (tab p 7)
  have e : ∀ (p : Fin 8) (h : Fin 2), p.val / 4 = h.val → P p = part (F := Ideal) (code h) (tab p 0) (tab p 1) (tab p 2) (tab p 3)
      (tab p 4) (tab p 5) (tab p 6) (tab p 7) := by
    intro p h hh
    obtain rfl : h = ⟨p.val / 4, by have := p.isLt; clear hh; omega⟩ := Fin.ext hh.symm
    rfl
  have hg := grp_apply w b P r d
  rw [e 0 0 rfl, e 1 0 rfl, e 2 0 rfl, e 3 0 rfl, e 4 1 rfl, e 5 1 rfl, e 6 1 rfl, e 7 1 rfl] at hg
  unfold grpOf
  exact hg

/-- The output's block at an index. -/
theorem outOf_apply (x0 : Vec Ideal S1x16x2048 .i32) (x1 : Vec Ideal S16x8x1024 .i16) (x2 : Vec Ideal S16x8x768 .fp8e4m3)
    (x3 x4 : Vec Ideal S16x768 .f32) (n : BitVec 32) (hc : ∀ i, (x0 i : BitVec 32).toNat < 1024) (s : Fin 2048) (d : Fin 768) :
    outOf (F := Ideal) x0 (tabOf x1) (wOf (F := Ideal) n (wfOf x2 x3)) (bOf (F := Ideal) n x4) (ix3 0 s d) =
      (∑ lv : Fin 16, ∑ j : Fin 8, Ideal.ofBits .bf16 (x1 (ix3 lv j (rowOf (x0 (ix3 0 lv s))))) * mask n lv.val (x2 (ix3 lv j d) * x3 (ix2 lv d)))
        + ∑ lv : Fin 16, mask n lv.val (x4 (ix2 lv d)) := by
  rw [← sum_pack]
  let g : Fin 16 := ⟨s.val / 128, by omega⟩
  let r : Fin 128 := ⟨s.val % 128, Nat.mod_lt _ (by decide)⟩
  have hs : (⟨128 * g.val + r.val, by omega⟩ : Fin 2048) = s := Fin.ext (Nat.div_add_mod s.val 128)
  have hout : outOf (F := Ideal) x0 (tabOf x1) (wOf (F := Ideal) n (wfOf x2 x3)) (bOf (F := Ideal) n x4) (ix3 0 s d)
      = grpOf (F := Ideal) (wOf (F := Ideal) n (wfOf x2 x3)) (bOf (F := Ideal) n x4) (fun h => View.ld x0 (rCode g h))
          (fun p q => View.ld (tabOf x1) (rTab p q)) (ix3 0 r d) := rfl
  rw [hout, grpOf_apply]
  refine congrArg₂ (fun x y : EReal => x + y) (Finset.sum_congr rfl fun k _ => ?_) (bOf_apply n x4 d)
  refine congrArg₂ (fun x y : EReal => x * y) ?_ ?_
  · refine (part_val x0 x1 hc g ⟨k.val / 16, by omega⟩ ⟨k.val % 16, Nat.mod_lt _ (by decide)⟩ r _ rfl (lvOf k)
      (by show k.val / 64 * 8 + k.val / 2 % 8 = k.val / 16 / 4 * 8 + k.val % 16 / 2; omega) (enOf k)
      (by show k.val / 16 % 4 * 2 + k.val % 2 = k.val / 16 % 4 * 2 + k.val % 16 % 2; omega)).trans ?_
    rw [hs]
  · rw [wOf_apply, wfOf_apply]

end Cert.KernelIdeal.Gen
end
-- ==== Proof.Points.lean ====
/- The kernel's array after the run: what every grid point leaves in its output block and carries to the next, by induction
   over the points, and the blocks put together into the closed formula. -/
module

public import proofs.«01_k».proof.Proof.Block
public import Idealize.ShloMosaic.Lib.Pipeline.ValueKit.Geometry

@[expose] public section

set_option maxRecDepth 16384

noncomputable section

namespace Cert.KernelIdeal.Gen

open Idealize.ShloMosaic hiding ix0 ix1 ix2 ix3 ix4 ix5
open Idealize.ShloMosaic.ValueIdx Idealize.ShloMosaic.TcCoe Idealize.SL.Sem
open Cert.Rvq

variable (m : (ℓ : Loc nD τ sig) → Buf (Elt Ideal) ℓ) (hO : Ok m) (c : Dev nD)

/-! ## The windows' blocks -/

theorem map0 : ∀ t : Fin grid0.N, cc0_transform_0 (grid0.coords t) = ![t.val / 4, 0, t.val % 4] := by decide +kernel
theorem map1 : ∀ t : Fin grid0.N, cc0_transform_1 (grid0.coords t) = ![0, 0, 0] := by decide +kernel
theorem map2 : ∀ t : Fin grid0.N, cc0_transform_2 (grid0.coords t) = ![0, 0, 0] := by decide +kernel
theorem map3 : ∀ t : Fin grid0.N, cc0_transform_3 (grid0.coords t) = ![0, 0] := by decide +kernel
theorem map4 : ∀ t : Fin grid0.N, cc0_transform_4 (grid0.coords t) = ![0, 0] := by decide +kernel
theorem map5 : ∀ t : Fin grid0.N, cc0_transform_5 (grid0.coords t) = ![t.val / 4, t.val % 4, 0] := by decide +kernel
theorem coord0 : ∀ t : Fin grid0.N, k0_off1 (grid0.coords t) = ![t.val / 4] := by decide +kernel

theorem zero_off {k : ℕ} (n y : ℕ) (h : k = 0) : k * n + y = y := by subst h; simp

/-- The whole codebooks are staged at every point. -/
theorem iblk1_eq (t : Fin (cfgM m hO).N) : iblk m hO c 1 t = V m c main_v1 := by
  funext y
  blk_simp [iblk]
  congr 1
  blk_ext
  · exact zero_off _ _ (congrFun (map1 t) 0)
  · exact zero_off _ _ (congrFun (map1 t) 1)
  · exact zero_off _ _ (congrFun (map1 t) 2)

theorem iblk2_eq (t : Fin (cfgM m hO).N) : iblk m hO c 2 t = V m c main_arg2 := by
  funext y
  blk_simp [iblk]
  congr 1
  blk_ext
  · exact zero_off _ _ (congrFun (map2 t) 0)
  · exact zero_off _ _ (congrFun (map2 t) 1)
  · exact zero_off _ _ (congrFun (map2 t) 2)

theorem iblk3_eq (t : Fin (cfgM m hO).N) : iblk m hO c 3 t = V m c main_arg3 := by
  funext y
  blk_simp [iblk]
  congr 1
  blk_ext
  · exact zero_off _ _ (congrFun (map3 t) 0)
  · exact zero_off _ _ (congrFun (map3 t) 1)

theorem iblk4_eq (t : Fin (cfgM m hO).N) : iblk m hO c 4 t = V m c main_arg4 := by
  funext y
  blk_simp [iblk]
  congr 1
  blk_ext
  · exact zero_off _ _ (congrFun (map4 t) 0)
  · exact zero_off _ _ (congrFun (map4 t) 1)

theorem tN (t : Fin (cfgM m hO).N) : t.val < 224 := t.isLt

/-- The codes' block of a point. -/
theorem iblk0_apply (t : Fin (cfgM m hO).N) (lv : Fin 16) (s : Fin 2048) :
    (iblk m hO c 0 t : Vec Ideal S1x16x2048 .i32) (ix3 0 lv s)
      = V m c main_v0 (ix3 ⟨t.val / 4, by have := tN m hO t; omega⟩ lv ⟨t.val % 4 * 2048 + s.val, by omega⟩) := by
  blk_simp [iblk]
  congr 1
  blk_ext
  · exact congrFun (map0 t) 0
  · exact zero_off _ _ (congrFun (map0 t) 1)
  · exact congrArg (fun z => z * 2048 + s.val) (congrFun (map0 t) 2)

/-- The active count the body reads at a point: its batch row's. -/
theorem nAt_eq (t : Fin (cfgM m hO).N) :
    nAt (F := Ideal) c (grid0.coords t) (tbl m 0) = V m c main_arg5 (ix1 ⟨t.val / 4, by have := tN m hO t; omega⟩) := by
  obtain rfl : c = 0 := Subsingleton.elim _ _
  refine (View.ld_unit_apply_of (V m 0 main_arg5 : Vec Ideal S56 .i32) _ _ _ (Shape.Idx.first (s := S1) (by decide)) _ ?_)
  intro a
  match a with
  | ⟨0, _⟩ => exact (congrFun (coord0 t) 0).symm

/-! ## What every point leaves -/

/-- The active count at a point, the packed table, the unmasked weights. -/
abbrev nP (t : Fin (cfgM m hO).N) : BitVec 32 := nAt (F := Ideal) c (grid0.coords t) (tbl m 0)
abbrev tabP : Vec Ideal S8x8x1024 .i32 := tabOf (F := Ideal) (V m c main_v1)
abbrev wfP : Vec Ideal S128x768 .f32 := wfOf (F := Ideal) (V m c main_arg2) (V m c main_arg3)

/-- The buffers after point `t`: its output block, the packed table, the unmasked weights, and its batch row's masked
    weights and bias. -/
def state (t : Fin (cfgM m hO).N) :
    Vec Ideal S1x2048x768 .bf16 × Vec Ideal S8x8x1024 .i32 × Vec Ideal S128x768 .f32 × Vec Ideal S128x768 .bf16 × Vec Ideal S1x768 .f32 :=
  Prod.mk (outOf (F := Ideal) (iblk m hO c 0 t) (tabP m c) (wOf (F := Ideal) (nP m hO c t) (wfP m c))
      (bOf (F := Ideal) (nP m hO c t) (V m c main_arg4)))
    (Prod.mk (tabP m c) (Prod.mk (wfP m c) (Prod.mk (wOf (F := Ideal) (nP m hO c t) (wfP m c))
      (bOf (F := Ideal) (nP m hO c t) (V m c main_arg4)))))

/-- Two states agree when their five parts do. -/
theorem mk5 {α β γ δ ε : Type} {a a' : α} {b b' : β} {d d' : γ} {e e' : δ} {f f' : ε} (h1 : a = a') (h2 : b = b') (h3 : d = d')
    (h4 : e = e') (h5 : f = f') : (a, b, d, e, f) = (a', b', d', e', f') := by
  subst h1 h2 h3 h4 h5; rfl

section
variable {x1 y1 : Vec Ideal S16x8x1024 .i16} {x2 y2 : Vec Ideal S16x8x768 .fp8e4m3} {x3 y3 x4 y4 : Vec Ideal S16x768 .f32}
variable (n : BitVec 32)

theorem tab_congr (h1 : x1 = y1) : tabOf (F := Ideal) x1 = tabOf y1 := by subst h1; rfl
theorem wf_congr (h2 : x2 = y2) (h3 : x3 = y3) : wfOf (F := Ideal) x2 x3 = wfOf y2 y3 := by subst h2 h3; rfl
theorem w_congr (h2 : x2 = y2) (h3 : x3 = y3) : wOf (F := Ideal) n (wfOf (F := Ideal) x2 x3) = wOf n (wfOf (F := Ideal) y2 y3) := by
  subst h2 h3; rfl
theorem b_congr (h4 : x4 = y4) : bOf (F := Ideal) n x4 = bOf n y4 := by subst h4; rfl
theorem out_congr (x0 : Vec Ideal S1x16x2048 .i32) {t t' : Vec Ideal S8x8x1024 .i32} {w w' : Vec Ideal S128x768 .bf16}
    {b b' : Vec Ideal S1x768 .f32} (h1 : t = t') (h2 : w = w') (h3 : b = b') : outOf (F := Ideal) x0 t w b = outOf x0 t' w' b' := by
  subst h1 h2 h3; rfl
end

/-- The first point fills every buffer. -/
theorem step_A (t : Fin (cfgM m hO).N) (h0 : t.val % 224 = 0) (h1 : t.val % 4 = 0) :
    outsAt0 m hO c t.val t.isLt = state m hO c t := by
  refine (outsAt0_A m hO c t h0 h1).trans (mk5 ?_ ?_ ?_ ?_ ?_)
  · exact (out0_A_5_eq ..).trans (out_congr _ (tab_congr (iblk1_eq m hO c t)) (w_congr _ (iblk2_eq m hO c t) (iblk3_eq m hO c t))
      (b_congr _ (iblk4_eq m hO c t)))
  · exact (sout0_A_0_eq ..).trans (tab_congr (iblk1_eq m hO c t))
  · exact (sout0_A_1_eq ..).trans (wf_congr (iblk2_eq m hO c t) (iblk3_eq m hO c t))
  · exact (sout0_A_2_eq ..).trans (w_congr _ (iblk2_eq m hO c t) (iblk3_eq m hO c t))
  · exact (sout0_A_3_eq ..).trans (b_congr _ (iblk4_eq m hO c t))

/-- A batch row's first point replaces the masked weights and bias. -/
theorem step_C (t t' : Fin (cfgM m hO).N) (ht : t'.val = t.val - 1) (h0 : ¬t.val % 224 = 0) (h1 : t.val % 4 = 0)
    (hp : outsAt0 m hO c (t.val - 1) (Nat.lt_of_le_of_lt (Nat.sub_le _ _) t.isLt) = state m hO c t') :
    outsAt0 m hO c t.val t.isLt = state m hO c t := by
  have e0 := congrArg (fun z => z.2.1) hp
  have e1 := congrArg (fun z => z.2.2.1) hp
  refine (outsAt0_C m hO c t h0 h1).trans (mk5 ?_ e0 e1 ?_ ?_)
  · exact (out0_C_5_eq ..).trans (out_congr _ e0 (congrArg (wOf (F := Ideal) (nP m hO c t)) e1) (b_congr _ (iblk4_eq m hO c t)))
  · exact (sout0_C_2_eq ..).trans (congrArg (wOf (F := Ideal) (nP m hO c t)) e1)
  · exact (sout0_C_3_eq ..).trans (b_congr _ (iblk4_eq m hO c t))

/-- Every other point keeps them. -/
theorem step_B (t t' : Fin (cfgM m hO).N) (ht : t'.val = t.val - 1) (h0 : ¬t.val % 224 = 0) (h1 : ¬t.val % 4 = 0)
    (hp : outsAt0 m hO c (t.val - 1) (Nat.lt_of_le_of_lt (Nat.sub_le _ _) t.isLt) = state m hO c t') :
    outsAt0 m hO c t.val t.isLt = state m hO c t := by
  have hn : nP m hO c t' = nP m hO c t := by
    unfold nP
    rw [nAt_eq m hO c t', nAt_eq m hO c t]
    exact congrArg (fun z => V m c main_arg5 (ix1 z)) (Fin.ext (by show t'.val / 4 = t.val / 4; omega))
  have e0 := congrArg (fun z => z.2.1) hp
  have e1 := congrArg (fun z => z.2.2.1) hp
  have e2 : _ = wOf (F := Ideal) (nP m hO c t) (wfP m c) :=
    (congrArg (fun z => z.2.2.2.1) hp).trans (congrArg (fun n => wOf (F := Ideal) n (wfP m c)) hn)
  have e3 : _ = bOf (F := Ideal) (nP m hO c t) (V m c main_arg4) :=
    (congrArg (fun z => z.2.2.2.2) hp).trans (congrArg (fun n => bOf (F := Ideal) n (V m c main_arg4)) hn)
  refine (outsAt0_B m hO c t h0 h1).trans (mk5 ?_ e0 e1 e2 e3)
  exact (out0_B_5_eq ..).trans (out_congr _ e0 e2 e3)

/-- What the buffers hold after every point. -/
theorem outs_eq : ∀ (n : ℕ) (hn : n < (cfgM m hO).N), outsAt0 m hO c n hn = state m hO c ⟨n, hn⟩ := by
  intro n
  induction n with
  | zero => exact fun hn => step_A m hO c ⟨0, hn⟩ rfl rfl
  | succ n ih =>
    intro hn
    have hp := ih (Nat.lt_of_succ_lt hn)
    have hlt : n + 1 < 224 := tN m hO ⟨n + 1, hn⟩
    have h0 : ¬(n + 1) % 224 = 0 := by rw [Nat.mod_eq_of_lt hlt]; exact Nat.succ_ne_zero n
    by_cases h1 : (n + 1) % 4 = 0
    · exact step_C m hO c ⟨n + 1, hn⟩ ⟨n, Nat.lt_of_succ_lt hn⟩ rfl h0 h1 hp
    · exact step_B m hO c ⟨n + 1, hn⟩ ⟨n, Nat.lt_of_succ_lt hn⟩ rfl h0 h1 hp

/-! ## The array -/

/-- The host's transpose of the codes. -/
theorem v0_apply (b : Fin 56) (lv : Fin 16) (s : Fin 8192) :
    V m c main_v0 (ix3 b lv s) = m ((c : Thread nD τ).loc main_arg0) (ix3 b s lv) := by
  refine (transpose_apply [0, 2, 1] (m ((c : Thread nD τ).loc main_arg0)) Facts₀.transposes_S56x8192x16_S56x16x8192_0_2_1
    (ix3 b lv s) (ix3 b s lv) ?_)
  intro a
  match a with
  | ⟨0, _⟩ => rfl
  | ⟨1, _⟩ => rfl
  | ⟨2, _⟩ => rfl

/-- The host's transpose of the codebooks. -/
theorem v1_apply (lv : Fin 16) (j : Fin 8) (r : Fin 1024) :
    V m c main_v1 (ix3 lv j r) = m ((c : Thread nD τ).loc main_arg1) (ix3 lv r j) := by
  refine (transpose_apply [0, 2, 1] (m ((c : Thread nD τ).loc main_arg1)) Facts₀.transposes_S16x1024x8_S16x8x1024_0_2_1
    (ix3 lv j r) (ix3 lv r j) ?_)
  intro a
  match a with
  | ⟨0, _⟩ => rfl
  | ⟨1, _⟩ => rfl
  | ⟨2, _⟩ => rfl

/-- The result, as the closed formula of the arguments. -/
abbrev specAt (b : Fin 56) (s : Fin 8192) (d : Fin 768) : EReal :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) b s d

/-- What the kernel's result array is shown to hold. -/
def val : Buf (Elt Ideal) ((c : Thread nD τ).loc main_v2) :=
  fun y => specAt m c (⟨(y 0).val, (y 0).isLt⟩ : Fin 56) (⟨(y 1).val, (y 1).isLt⟩ : Fin 8192) (⟨(y 2).val, (y 2).isLt⟩ : Fin 768)

/-- A point's output block, when every code names a codebook row. -/
theorem block_apply (hc : ∀ i, (m ((c : Thread nD τ).loc main_arg0) i : BitVec 32).toNat < 1024) (t : Fin (cfgM m hO).N)
    (s : Fin 2048) (d : Fin 768) :
    (outsAt0 m hO c t.val t.isLt).1 (ix3 0 s d) = specAt m c ⟨t.val / 4, by have := tN m hO t; omega⟩ ⟨t.val % 4 * 2048 + s.val, by omega⟩ d := by
  have hx : ∀ lv s, (iblk m hO c 0 t : Vec Ideal S1x16x2048 .i32) (ix3 0 lv s)
      = m ((c : Thread nD τ).loc main_arg0) (ix3 ⟨t.val / 4, by have := tN m hO t; omega⟩ ⟨t.val % 4 * 2048 + s.val, by omega⟩ lv) :=
    fun lv s => (iblk0_apply m hO c t lv s).trans (v0_apply m c _ _ _)
  have hlt : ∀ i, ((iblk m hO c 0 t : Vec Ideal S1x16x2048 .i32) i : BitVec 32).toNat < 1024 := by
    intro i
    have hi : i = ix3 (0 : Fin 1) (⟨(i (1 : Fin 3)).val, (i (1 : Fin 3)).isLt⟩ : Fin 16) (⟨(i (2 : Fin 3)).val, (i (2 : Fin 3)).isLt⟩ : Fin 2048) :=
      idx3_ext _ _ (by have h : (i (0 : Fin 3)).val < 1 := (i (0 : Fin 3)).isLt; show (i (0 : Fin 3)).val = 0; omega) rfl rfl
    rw [hi, hx]
    exact hc _
  rw [outs_eq m hO c t.val t.isLt]
  refine (outOf_apply _ _ _ _ _ _ hlt s d).trans ?_
  unfold specAt spec
  have hn : nP m hO c t = m ((c : Thread nD τ).loc main_arg5) (ix1 ⟨t.val / 4, by have := tN m hO t; omega⟩) := by
    unfold nP
    rw [nAt_eq m hO c t, V_main_arg5]
  refine congrArg₂ (fun x y : EReal => x + y) (Finset.sum_congr rfl fun lv _ => Finset.sum_congr rfl fun j _ => ?_) (Finset.sum_congr rfl fun lv _ => ?_)
  · rw [hx, hn, v1_apply, V_main_arg2, V_main_arg3]
  · rw [hn, V_main_arg4]

/-- The array after the run. -/
theorem final_o (hc : ∀ i, (m ((c : Thread nD τ).loc main_arg0) i : BitVec 32).toNat < 1024) :
    (dats m hO 0 c).arrAt 5 (cfgM m hO).N = val m c := by
  refine (dats m hO 0 c).arrAt_eq_of_covers 5 (val m c) ⟨?_, ?_⟩ fun t hf y => ?_
  · intro a
    match a with
    | ⟨0, _⟩ => exact (by decide : 0 < 1)
    | ⟨1, _⟩ => exact (by decide : 0 < 2048)
    | ⟨2, _⟩ => exact (by decide : 0 < 768)
  · intro β
    have h0 : (β (0 : Fin 3)).val < 56 := Nat.lt_of_lt_of_eq (β (0 : Fin 3)).isLt (by show (56 + 1 - 1) / 1 = 56; decide)
    have h1 : (β (1 : Fin 3)).val < 4 := Nat.lt_of_lt_of_eq (β (1 : Fin 3)).isLt (by show (8192 + 2048 - 1) / 2048 = 4; decide)
    have h2 : (β (2 : Fin 3)).val < 1 := Nat.lt_of_lt_of_eq (β (2 : Fin 3)).isLt (by show (768 + 768 - 1) / 768 = 1; decide)
    have hlt : (β (0 : Fin 3)).val * 4 + (β (1 : Fin 3)).val < 224 := by omega
    refine ⟨⟨(β (0 : Fin 3)).val * 4 + (β (1 : Fin 3)).val, hlt⟩, flush0_5 _ _, fun a => ⟨?_, Or.inl ?_⟩⟩
    · match a with
      | ⟨0, _⟩ => exact (congrFun (map5 ⟨_, hlt⟩) 0).trans (by show ((β (0 : Fin 3)).val * 4 + (β (1 : Fin 3)).val) / 4 = (β (0 : Fin 3)).val; omega)
      | ⟨1, _⟩ => exact (congrFun (map5 ⟨_, hlt⟩) 1).trans (by show ((β (0 : Fin 3)).val * 4 + (β (1 : Fin 3)).val) % 4 = (β (1 : Fin 3)).val; omega)
      | ⟨2, _⟩ => exact (congrFun (map5 ⟨_, hlt⟩) 2).trans (by show 0 = (β (2 : Fin 3)).val; omega)
    · rfl
  blk_simp
  rw [after0_5]
  have hy : y = ix3 (0 : Fin 1) (⟨(y (1 : Fin 3)).val, (y (1 : Fin 3)).isLt⟩ : Fin 2048) (⟨(y (2 : Fin 3)).val, (y (2 : Fin 3)).isLt⟩ : Fin 768) :=
    idx3_ext _ _ (by have h : (y (0 : Fin 3)).val < 1 := (y (0 : Fin 3)).isLt; show (y (0 : Fin 3)).val = 0; omega) rfl rfl
  refine (congrArg (outsAt0 m hO c t.val t.isLt).1 hy).trans ((block_apply m hO c hc t _ _).trans ?_)
  unfold val
  have key : ∀ (b b' : Fin 56) (s s' : Fin 8192) (d d' : Fin 768), b.val = b'.val → s.val = s'.val → d.val = d'.val →
      specAt m c b s d = specAt m c b' s' d' := by
    intro b b' s s' d d' hb hs hd
    rw [Fin.ext hb, Fin.ext hs, Fin.ext hd]
  refine key _ _ _ _ _ _ ?_ ?_ ?_
  all_goals show _ = _
  all_goals blk_simp
  · exact (congrFun (map5 t) 0).symm
  · exact congrArg (fun z => z * 2048 + (y (1 : Fin 3)).val) (congrFun (map5 t) 1).symm
  · exact (zero_off _ _ (congrFun (map5 t) 2)).symm

end Cert.KernelIdeal.Gen
end
-- ==== Proof.RefValue.lean ====
/- The reference's result at an index is the closed formula: its gather reads the codebook row the level's code names, its
   two word casts cancel, and its product runs over the columns in level order. -/
module

public import proofs.«01_k».proof.Proof.Spec
public import proofs.«01_k».proof.Proof.Gen.ReferenceIdeal.Run
public import proofs.«01_k».proof.Proof.Gen.ReferenceIdeal.Read
public import Idealize.ShloMosaic.Lib.BitcastConvert
public import Idealize.ShloMosaic.Lib.IdealHost
public import Idealize.ShloMosaic.Lib.Pointwise
public import Idealize.ShloMosaic.Lib.Pipeline.ValueKit.Geometry

@[expose] public section

set_option maxRecDepth 16384

noncomputable section

namespace Cert.ReferenceIdeal.RefValue

open Cert.ReferenceIdeal Cert.ReferenceIdeal.Gen Cert.ReferenceIdeal.Read Cert.Rvq
open Idealize.ShloMosaic hiding ix0 ix1 ix2 ix3 ix4 ix5
open Idealize.ShloMosaic.ValueIdx Idealize.ShloMosaic.TcCoe Idealize.SL.Sem

/-! ## The weights' region -/

variable (m : (ℓ : Loc nD τ sig) → Buf (Elt Ideal) ℓ) (c : Dev nD)

/-- The weights: the codebook's projection times its scale. -/
def wts (x2 : Vec Ideal S16x8x768 .fp8e4m3) (x3 : Vec Ideal S16x768 .f32) : Vec Ideal S16x8x768 .bf16 :=
  fun y => ((x2 y : EReal) * (x3 (ix2 (⟨(y 0).val, (y 0).isLt⟩ : Fin 16) (⟨(y 2).val, (y 2).isLt⟩ : Fin 768)) : EReal) : EReal)

theorem pay_apply (x2 : Vec Ideal S16x8x768 .fp8e4m3) (x3 : Vec Ideal S16x768 .f32) (y : S16x8x768.Idx) :
    k0_pay1 (F := Ideal) x2 x3 y = wts x2 x3 y := by
  have e : k0_pay1 (F := Ideal) x2 x3 y = FloatOps.mulf (F := Ideal) (φ := .bf16) (x2 y)
      (broadcastTo S16x8x768 (shapeCast S16x1x768 (truncf (F := Ideal) (s := S16x768) (φ := .f32) .bf16 x3 bitsLt_bf16_f32)
        shapeCasts_S16x768_S16x1x768) broadcasts_S16x1x768_S16x8x768 y) := rfl
  rw [e]
  unfold wts
  rw [Ideal.mulf_def]
  congr 1
  rw [broadcastTo_apply _ _ y (ix3 (⟨(y 0).val, (y 0).isLt⟩ : Fin 16) (0 : Fin 1) (⟨(y 2).val, (y 2).isLt⟩ : Fin 768)) (by
    intro a
    match a with
    | ⟨0, _⟩ => rfl
    | ⟨1, _⟩ => rfl
    | ⟨2, _⟩ => rfl)]
  rw [shapeCast_apply _ _ _ (ix2 (⟨(y 0).val, (y 0).isLt⟩ : Fin 16) (⟨(y 2).val, (y 2).isLt⟩ : Fin 768)) (by
    rw [Shape.rowMajor_val_two, Shape.rowMajor_val_three]
    show (y 0).val * 768 + (y 2).val = ((y 0).val * 1 + 0) * 768 + (y 2).val
    omega)]
  rfl

theorem hz3 : (![0, 0, 0] : Fin 3 → Nat) = fun _ => 0 := funext fun a => by fin_cases a <;> rfl
theorem hz2 : (![0, 0] : Fin 2 → Nat) = fun _ => 0 := funext fun a => by fin_cases a <;> rfl

theorem out_wts (x2 : Vec Ideal S16x8x768 .fp8e4m3) (x3 : Vec Ideal S16x768 .f32) :
    out0_2 (F := Ideal) x2 x3 = wts x2 x3 := by
  funext y
  unfold out0_2
  rw [View.ld_unit_zero hz3, View.ld_unit_zero hz2]
  refine View.canon_apply_of_pieces (wts x2 x3) _ (fun p hp j => ?_) y (cover0_2 _ y)
  simp only [List.mem_cons, List.mem_nil_iff, or_false] at hp
  subst hp
  show k0_pay1 (F := Ideal) x2 x3 j = wts x2 x3 (r0_0.emb j)
  rw [pay_apply]
  congr 1
  funext a
  refine Fin.ext (Eq.symm ?_)
  exact (ValueKit.rect_emb_unit_val ![0, 0, 0] S16x8x768.size inb_S16x8x768_S16x8x768_0_0_0 j a).trans
    ((congrArg (· + (j a).val) (congrFun hz3 a)).trans (Nat.zero_add _))

abbrev val : Buf (Elt Ideal) ((c : Thread nD τ).loc main_v0) :=
  wts (m ((c : Thread nD τ).loc main_arg2)) (m ((c : Thread nD τ).loc main_arg3))

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0] := (by decide +kernel : ∀ t : Fin grid0.N, _)

/-- What the region leaves: the weights. -/
theorem reg_eq : Value.reg_main_v0 m c = val m c := by
  refine (dats m 0 c).arrAt_eq_of_covers 2 (val m c) (by decide +kernel) fun t hf y => ?_
  blk_simp
  rw [after0_2, out_wts]
  unfold val wts
  blk_simp [iblk]
  congr 1
  rw [V_main_arg3]
  congr 1
  blk_ext [idx1, idx2]

/-! ## The gather -/

abbrev gd := gather_S16384x4_S56x8192x16x1_S56x8192x16x4_3_0_n_n_0_3_14

theorem gather_apply {α : Type} (x : S16384x4.Idx → α) (idx : IVec S56x8192x16x1 32) (b : Fin 56) (s : Fin 8192)
    (lv : Fin 16) (w : Fin 4) :
    Host.gather gd x idx (ix4 b s lv w)
      = x (ix2 (⟨min (idx (ix4 b s lv (0 : Fin 1))).toInt.toNat 16383, by omega⟩ : Fin 16384) w) := by
  unfold Host.gather
  congr 1
  funext a
  refine Fin.ext ?_
  show gd.start (ix4 b s lv w) idx a + gd.batchCoord (ix4 b s lv w) a + gd.offCoord (ix4 b s lv w) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => by
        have := (GatherDims.mem_sKept _ _).mp h
        exact this.1 (List.mem_singleton.mpr rfl))]
    simp only [Nat.add_zero]
    unfold GatherDims.start
    rw [dif_pos (show (0 : Fin 2) ∈ gd.startIndexMap from List.mem_singleton.mpr rfl)]
    have hsi : gd.siIdx (ix4 b s lv w) ⟨List.idxOf (0 : Fin 2) gd.startIndexMap,
        List.idxOf_lt_length_iff.2 (List.mem_singleton.mpr rfl)⟩ = ix4 b s lv (0 : Fin 1) := by
      funext q; refine Fin.ext ?_
      match q with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    have hs : gd.start (ix4 b s lv w) idx 1 = 0 := by
      unfold GatherDims.start
      rw [dif_neg (by decide)]
    rw [hs]
    simp only [Nat.zero_add]
    rfl

/-! ## The result -/

variable (x0 : Vec Ideal S56x8192x16 .i32) (x1 : Vec Ideal S16x1024x8 .i16) (x2 : Vec Ideal S16x8x768 .fp8e4m3)
  (x3 x4 : Vec Ideal S16x768 .f32) (x5 : Vec Ideal S56 .i32)

/-- The start index is the code plus the level's offset into the stacked codebooks. -/
theorem idx_apply (b : Fin 56) (s : Fin 8192) (lv : Fin 16) :
    val_main_call0_v0 (F := Ideal) x0 (ix4 b s lv (0 : Fin 1))
      = x0 (ix3 b s lv) + BitVec.ofNat 32 lv.val * 1024#32 := by
  rw [val_main_call0_v0_apply, val_main_v8_apply, val_main_v7_apply, val_main_v6_apply, val_main_v5_apply,
    val_main_v4_apply, val_main_v1_apply, val_main_c_apply]
  have e : idx_main_call0_v0 (ix4 b s lv (0 : Fin 1)) = ix3 b s lv := by
    funext a
    match a with
    | ⟨0, _⟩ => rfl
    | ⟨1, _⟩ => rfl
    | ⟨2, _⟩ => rfl
  rw [e]
  rfl

theorem start_val (code : BitVec 32) (hc : code.toNat < 1024) (lv : Fin 16) :
    min (code + BitVec.ofNat 32 lv.val * 1024#32).toInt.toNat 16383 = lv.val * 1024 + code.toNat := by
  have hl := lv.isLt
  have e : (code + BitVec.ofNat 32 lv.val * 1024#32).toNat = lv.val * 1024 + code.toNat := by
    rw [BitVec.toNat_add, BitVec.toNat_mul, BitVec.toNat_ofNat, BitVec.toNat_ofNat]
    omega
  rw [BitVec.toInt_eq_toNat_of_lt (by rw [e]; omega), e]
  omega

/-- A gathered word's half is the codebook's own 16-bit entry. -/
theorem v10_apply (hc : ∀ i, (x0 i).toNat < 1024) (b : Fin 56) (s : Fin 8192) (lv : Fin 16) (w : Fin 4) (p : Fin 2) :
    val_main_v10 (F := Ideal) x0 x1 (ix5 b s lv w p)
      = Ideal.ofBits .bf16 (x1 (ix3 lv (rowOf (x0 (ix3 b s lv))) (⟨w.val * 2 + p.val, by omega⟩ : Fin 8))) := by
  unfold val_main_v10
  show Ideal.ofBits .bf16 (Host.bitcastConvertNarrow S56x8192x16x4x2 16 (val_main_v9 (F := Ideal) x0 x1)
    splits_S56x8192x16x4_w32_S56x8192x16x4x2_w16 (ix5 b s lv w p)) = _
  congr 1
  rw [Host.bitcastConvertNarrow_apply]
  have ed : splits_S56x8192x16x4_w32_S56x8192x16x4x2_w16.drop (ix5 b s lv w p) = ix4 b s lv w := by
    funext a
    refine Fin.ext ?_
    rw [Shape.SplitsWords.drop_apply_val]
    match a with
    | ⟨0, _⟩ => rfl
    | ⟨1, _⟩ => rfl
    | ⟨2, _⟩ => rfl
    | ⟨3, _⟩ => rfl
  have ea : ((ix5 b s lv w p : S56x8192x16x4x2.Idx) splits_S56x8192x16x4_w32_S56x8192x16x4x2_w16.axis).val = p.val := rfl
  rw [ed, ea]
  unfold val_main_v9
  rw [gather_apply]
  have hl := lv.isLt
  have hw := w.isLt
  have hcc := hc (ix3 b s lv)
  have er : (ix2 (⟨min (val_main_call0_v0 (F := Ideal) x0 (ix4 b s lv (0 : Fin 1))).toInt.toNat 16383, by omega⟩ : Fin 16384) w : S16384x4.Idx)
      = ix2 (⟨lv.val * 1024 + (x0 (ix3 b s lv)).toNat, by omega⟩ : Fin 16384) w := by
    have e : (⟨min (val_main_call0_v0 (F := Ideal) x0 (ix4 b s lv (0 : Fin 1))).toInt.toNat 16383, by omega⟩ : Fin 16384)
        = ⟨lv.val * 1024 + (x0 (ix3 b s lv)).toNat, by omega⟩ :=
      Fin.ext (by
        show min (val_main_call0_v0 (F := Ideal) x0 (ix4 b s lv (0 : Fin 1))).toInt.toNat 16383 = _
        rw [idx_apply]
        exact start_val _ hcc lv)
    rw [e]
  rw [er]
  have key : ∀ q : Fin 2, ∀ y : S16384x4x2.Idx,
      y = ix3 (⟨lv.val * 1024 + (x0 (ix3 b s lv)).toNat, by omega⟩ : Fin 16384) w q →
      val_main_v2 (F := Ideal) x1 y = x1 (ix3 lv (rowOf (x0 (ix3 b s lv))) (⟨w.val * 2 + q.val, by omega⟩ : Fin 8)) := by
    intro q y hy
    subst hy
    rw [val_main_v2_apply]
    congr 1
    have hq := q.isLt
    funext a
    refine Fin.ext ?_
    match a with
    | ⟨0, _⟩ =>
      show (((lv.val * 1024 + (x0 (ix3 b s lv)).toNat) * 4 + w.val) * 2 + q.val) / 8192 = lv.val
      omega
    | ⟨1, _⟩ =>
      show (((lv.val * 1024 + (x0 (ix3 b s lv)).toNat) * 4 + w.val) * 2 + q.val) / 8 % 1024 = (x0 (ix3 b s lv)).toNat % 1024
      omega
    | ⟨2, _⟩ =>
      show (((lv.val * 1024 + (x0 (ix3 b s lv)).toNat) * 4 + w.val) * 2 + q.val) % 8 = w.val * 2 + q.val
      omega
  have esnoc : ∀ (q : Fin 2) (k : S16384x4x2.Coord splits_S16384x4_w32_S16384x4x2_w16.axis), k.val = q.val →
      splits_S16384x4_w32_S16384x4x2_w16.snoc (ix2 (⟨lv.val * 1024 + (x0 (ix3 b s lv)).toNat, by omega⟩ : Fin 16384) w) k
        = ix3 (⟨lv.val * 1024 + (x0 (ix3 b s lv)).toNat, by omega⟩ : Fin 16384) w q := by
    intro q k hk
    funext a
    refine Fin.ext ?_
    match a with
    | ⟨0, _⟩ => rfl
    | ⟨1, _⟩ => rfl
    | ⟨2, _⟩ => exact hk
  unfold val_main_v3
  rw [Host.bitcastConvertWiden_apply_16_32]
  rw [key 1 _ (esnoc 1 ⟨1, by decide⟩ rfl), key 0 _ (esnoc 0 ⟨0, by decide⟩ rfl)]
  match p with
  | ⟨0, _⟩ =>
    apply BitVec.eq_of_getLsbD_eq
    intro i hi
    rw [BitVec.getLsbD_extractLsb', BitVec.getLsbD_append]
    simp [hi]
  | ⟨1, _⟩ =>
    apply BitVec.eq_of_getLsbD_eq
    intro i hi
    rw [BitVec.getLsbD_extractLsb', BitVec.getLsbD_append]
    simp [hi]

theorem v16_eq (b : Fin 56) (lv : Fin 16) :
    val_main_v16 (F := Ideal) x5 (ix2 b lv) = IntOp.cmpi .slt (BitVec.ofNat 32 lv.val) (x5 (ix1 b)) := by
  rw [val_main_v16_apply, val_main_v14_apply, val_main_v12_apply, val_main_v1_apply, val_main_v15_apply, val_main_v13_apply]
  have e : idx_main_v13 (idx_main_v15 (ix2 b lv)) = ix1 b := by
    funext a
    match a with
    | ⟨0, _⟩ => rfl
  rw [e]

/-- The masked weights. -/
theorem v20_apply (r0 : Vec Ideal S16x8x768 .bf16) (b : Fin 56) (k : Fin 128) (d : Fin 768) :
    val_main_v20 (F := Ideal) x5 r0 (ix3 b k d)
      = mask (x5 (ix1 b)) (k.val / 8) (r0 (ix3 (⟨k.val / 8, by omega⟩ : Fin 16) (⟨k.val % 8, by omega⟩ : Fin 8) d)) := by
  rw [val_main_v20_apply, val_main_v19_apply, val_main_call1_v0_apply, val_main_v17_apply, val_main_call1_v1_apply,
    val_main_v18_apply, val_main_call1_v2_apply, val_main_cst_apply]
  have hb := b.isLt
  have hk := k.isLt
  have hd := d.isLt
  have e1 : idx_main_v17 (idx_main_call1_v0 (idx_main_v20 (ix3 b k d))) = ix2 b (⟨k.val / 8, by omega⟩ : Fin 16) := by
    funext a
    refine Fin.ext ?_
    match a with
    | ⟨0, _⟩ => show ((b.val * 128 + k.val) * 768 + d.val) / 98304 = b.val; omega
    | ⟨1, _⟩ => show ((b.val * 128 + k.val) * 768 + d.val) / 6144 % 16 = k.val / 8; omega
  have e2 : idx_main_v18 (idx_main_call1_v1 (idx_main_v20 (ix3 b k d)))
      = ix3 (⟨k.val / 8, by omega⟩ : Fin 16) (⟨k.val % 8, by omega⟩ : Fin 8) d := by
    funext a
    refine Fin.ext ?_
    match a with
    | ⟨0, _⟩ => show ((b.val * 128 + k.val) * 768 + d.val) / 6144 % 16 = k.val / 8; omega
    | ⟨1, _⟩ => show ((b.val * 128 + k.val) * 768 + d.val) / 768 % 8 = k.val % 8; omega
    | ⟨2, _⟩ => show ((b.val * 128 + k.val) * 768 + d.val) % 768 = d.val; omega
  rw [e1, e2, v16_eq, Ideal.ofBits_def, Ideal.ofBits_zero_bf16]
  exact select_slt _ _ _

/-- The biases' sum. -/
theorem v27_apply (b : Fin 56) (s : Fin 8192) (d : Fin 768) :
    val_main_v27 (F := Ideal) x4 x5 (ix3 b s d) = ∑ lv : Fin 16, mask (x5 (ix1 b)) lv.val (x4 (ix2 lv d)) := by
  rw [val_main_v27_apply, val_main_v26_apply, val_main_v25_apply, val_main_cst_1_apply, Ideal.ofBits_def,
    Ideal.ofBits_zero_f32, zero_add]
  refine Finset.sum_congr rfl fun lv _ => ?_
  rw [val_main_v24_apply, val_main_call2_v0_apply, val_main_v22_apply, val_main_call2_v1_apply, val_main_v23_apply,
    val_main_call2_v2_apply, val_main_cst_0_apply]
  have e1 : idx_main_v22 (idx_main_call2_v0 (idx_main_v25 (idx_main_v26 (idx_main_v27 (ix3 b s d))) lv)) = ix2 b lv := by
    funext a
    match a with
    | ⟨0, _⟩ => rfl
    | ⟨1, _⟩ => rfl
  have e2 : idx_main_v23 (idx_main_call2_v1 (idx_main_v25 (idx_main_v26 (idx_main_v27 (ix3 b s d))) lv)) = ix2 lv d := by
    funext a
    match a with
    | ⟨0, _⟩ => rfl
    | ⟨1, _⟩ => rfl
  rw [e1, e2, v16_eq, Ideal.ofBits_def, Ideal.ofBits_zero_f32]
  exact select_slt _ _ _

theorem v11_apply (hc : ∀ i, (x0 i).toNat < 1024) (b : Fin 56) (s : Fin 8192) (k : Fin 128) :
    val_main_v11 (F := Ideal) x0 x1 (ix3 b s k)
      = Ideal.ofBits .bf16 (x1 (ix3 (⟨k.val / 8, by omega⟩ : Fin 16)
          (rowOf (x0 (ix3 b s (⟨k.val / 8, by omega⟩ : Fin 16)))) (⟨k.val % 8, by omega⟩ : Fin 8))) := by
  have hb := b.isLt
  have hs := s.isLt
  have hk := k.isLt
  rw [val_main_v11_apply]
  have e : idx_main_v11 (ix3 b s k) = ix5 b s (⟨k.val / 8, by omega⟩ : Fin 16) (⟨k.val / 2 % 4, by omega⟩ : Fin 4)
      (⟨k.val % 2, by omega⟩ : Fin 2) := by
    funext a
    refine Fin.ext ?_
    match a with
    | ⟨0, _⟩ => show ((b.val * 8192 + s.val) * 128 + k.val) / 1048576 = b.val; omega
    | ⟨1, _⟩ => show ((b.val * 8192 + s.val) * 128 + k.val) / 128 % 8192 = s.val; omega
    | ⟨2, _⟩ => show ((b.val * 8192 + s.val) * 128 + k.val) / 8 % 16 = k.val / 8; omega
    | ⟨3, _⟩ => show ((b.val * 8192 + s.val) * 128 + k.val) / 2 % 4 = k.val / 2 % 4; omega
    | ⟨4, _⟩ => show ((b.val * 8192 + s.val) * 128 + k.val) % 2 = k.val % 2; omega
  rw [e, v10_apply x0 x1 hc]
  congr 3
  exact Fin.ext (by show k.val / 2 % 4 * 2 + k.val % 2 = k.val % 8; omega)

/-- The reference's result at an index. -/
theorem result_apply (hc : ∀ i, (x0 i).toNat < 1024) (b : Fin 56) (s : Fin 8192) (d : Fin 768) :
    val_main_v29 (F := Ideal) x0 x1 x4 x5 (wts x2 x3) (ix3 b s d) = spec x0 x1 x2 x3 x4 x5 b s d := by
  rw [val_main_v29_apply, val_main_v28_apply]
  show val_main_v21 (F := Ideal) x0 x1 x5 (wts x2 x3) (ix3 b s d) + val_main_v27 (F := Ideal) x4 x5 (ix3 b s d) = _
  rw [v27_apply, val_main_v21_apply]
  unfold spec
  congr 1
  rw [← sum_cols (fun lv j => Ideal.ofBits .bf16 (x1 (ix3 lv (rowOf (x0 (ix3 b s lv))) j))
      * mask (x5 (ix1 b)) lv.val (x2 (ix3 lv j d) * x3 (ix2 lv d)))]
  refine Finset.sum_congr rfl fun k _ => ?_
  have e1 : lidx_main_v21 (ix3 b s d) k = ix3 b s k := by
    funext a
    match a with
    | ⟨0, _⟩ => rfl
    | ⟨1, _⟩ => rfl
    | ⟨2, _⟩ => rfl
  have e2 : ridx_main_v21 (ix3 b s d) k = ix3 b k d := by
    funext a
    match a with
    | ⟨0, _⟩ => rfl
    | ⟨1, _⟩ => rfl
    | ⟨2, _⟩ => rfl
  rw [e1, e2, v11_apply x0 x1 hc, v20_apply]
  rfl

end Cert.ReferenceIdeal.RefValue

end
-- ==== Proof.Close.lean ====
/- The value claim: the precondition read as a bound on every code, both programs' runs read as the closed formula, and the
   two put side by side. -/
module

public import proofs.«01_k».proof.Defs
public import proofs.«01_k».proof.Proof.Points
public import proofs.«01_k».proof.Proof.RefValue
public import proofs.«01_k».proof.Proof.Gen.Pre_codes_in_range
public import Idealize.ShloMosaic.Lib.ReduceAll

@[expose] public section

set_option maxRecDepth 16384

noncomputable section

namespace Cert.Proof

open Idealize.ShloMosaic hiding ix0 ix1 ix2 ix3 ix4 ix5
open Idealize.ShloMosaic.ValueIdx Idealize.ShloMosaic.TcCoe Idealize.SL.Sem
open Cert.Rvq

/-! ## The precondition -/

instance : Subsingleton Cert.Pre_codes_in_range.S_.Idx := ⟨fun i j => funext fun a => absurd a.isLt (Nat.not_lt_zero _)⟩

/-- A word at least 0 and below 1024, both signed, is below 1024. -/
theorem code_lt (x : BitVec 32) (h : IntOp.andi (IntOp.cmpi .sge x 0#32) (IntOp.cmpi .slt x 1024#32) = 1#1) : x.toNat < 1024 := by
  unfold IntOp.andi IntOp.cmpi at h
  by_cases h1 : x.slt 1024#32 = true
  · by_cases h0 : (0#32).sle x = true
    · have h2 := BitVec.sle_iff_toInt_le.mp h0
      have h3 := BitVec.slt_iff_toInt_lt.mp h1
      have h4 : (1024#32).toInt = 1024 := by decide
      have h5 : (0#32).toInt = 0 := by decide
      rw [h4] at h3
      rw [h5] at h2
      rw [BitVec.toInt_eq_toNat_cond] at h2 h3
      have := x.isLt
      split at h2 <;> omega
    · simp [h0] at h
  · simp [h1] at h

theorem codes_lt (x0 : IVec Cert.Pre_codes_in_range.S56x8192x16 32) (x1 : IVec Cert.Pre_codes_in_range.S16x1024x8 16)
    (x2 : FVec Ideal Cert.Pre_codes_in_range.S16x8x768 .fp8e4m3) (x3 x4 : FVec Ideal Cert.Pre_codes_in_range.S16x768 .f32)
    (x5 : IVec Cert.Pre_codes_in_range.S56 32) [Cert.Pre_codes_in_range.Facts]
    (h : Cert.Pre_codes_in_range.fn (F := Ideal) x0 x1 x2 x3 x4 x5 = fun _ => 1#1) (i) : (x0 i).toNat < 1024 := by
  have hj := congrFun h (fun a => Fin.elim0 a)
  unfold Cert.Pre_codes_in_range.fn at hj
  exact code_lt (x0 i) (Host.reduce_andi_all _ _ _ _ _ hj i)

end Cert.Proof

/-! ## The kernel's run -/

namespace Cert.KernelIdeal.Gen

open Idealize.ShloMosaic hiding ix0 ix1 ix2 ix3 ix4 ix5
open Idealize.ShloMosaic.ValueIdx Idealize.ShloMosaic.TcCoe Idealize.SL.Sem

variable (m : (ℓ : Loc nD τ sig) → Buf (Elt Ideal) ℓ) (ρ : Dev nD → PrngReg)

/-- The kernel's result is the closed formula. -/
theorem run_val (hc : ∀ c : Dev nD, ∀ i, (m ((c : Thread nD τ).loc main_arg0) i : BitVec 32).toNat < 1024) :
    θ_run defs (onTc (τ := τ) (main (F := Ideal))) ⟨m, fun _ => 0, ρ⟩ fun r => ∀ c : Dev nD,
      r.2.mem ((c.tc : Thread nD τ).loc main_v2) = val m c :=
  (θ_run defs _ _).mono (fun r h c => (h.out_eq c 5).trans (final_o m trivial c (hc c))) (run_main m ρ trivial)

end Cert.KernelIdeal.Gen

/-! ## The reference's run -/

namespace Cert.ReferenceIdeal.RefValue

open Cert.ReferenceIdeal Cert.ReferenceIdeal.Gen Cert.ReferenceIdeal.Read Cert.Rvq
open Idealize.ShloMosaic hiding ix0 ix1 ix2 ix3 ix4 ix5
open Idealize.ShloMosaic.ValueIdx Idealize.ShloMosaic.TcCoe Idealize.SL.Sem

variable (m : (ℓ : Loc nD τ sig) → Buf (Elt Ideal) ℓ) (ρ : Dev nD → PrngReg)

/-- What the reference's result is shown to hold. -/
def resultAt (c : Dev nD) : Buf (Elt Ideal) ((c : Thread nD τ).loc main_v29) :=
  fun y => spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (⟨(y 0).val, (y 0).isLt⟩ : Fin 56) (⟨(y 1).val, (y 1).isLt⟩ : Fin 8192) (⟨(y 2).val, (y 2).isLt⟩ : Fin 768)

/-- The reference's last stage, over the weights its region leaves, is the closed formula. -/
theorem stage_eq (c : Dev nD) (hc : ∀ i, (m ((c : Thread nD τ).loc main_arg0) i : BitVec 32).toNat < 1024) :
    val_main_v29 (F := Ideal) (m ((c : Thread nD τ).loc main_arg0)) (m ((c : Thread nD τ).loc main_arg1))
      (m ((c : Thread nD τ).loc main_arg4)) (m ((c : Thread nD τ).loc main_arg5)) (Value.reg_main_v0 m c) = resultAt m c := by
  rw [reg_eq]
  funext y
  have hy : y = ix3 (⟨(y 0).val, (y 0).isLt⟩ : Fin 56) (⟨(y 1).val, (y 1).isLt⟩ : Fin 8192) (⟨(y 2).val, (y 2).isLt⟩ : Fin 768) := by
    funext a
    match a with
    | ⟨0, _⟩ => rfl
    | ⟨1, _⟩ => rfl
    | ⟨2, _⟩ => rfl
  refine (congrArg _ hy).trans (result_apply _ _ _ _ _ _ hc _ _ _)

/-- The reference's result is the closed formula. -/
theorem run_val (hc : ∀ c : Dev nD, ∀ i, (m ((c : Thread nD τ).loc main_arg0) i : BitVec 32).toNat < 1024) :
    θ_run defs (onTc (τ := τ) (main (F := Ideal))) ⟨m, fun _ => 0, ρ⟩ fun r => ∀ c : Dev nD,
      r.2.mem ((c : Thread nD τ).loc main_v29) = resultAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (stage_eq m c (hc c)), (h c).2⟩) (Value.run m ρ)

end Cert.ReferenceIdeal.RefValue

/-! ## The claim -/

namespace Cert.Proof

open Idealize.ShloMosaic hiding ix0 ix1 ix2 ix3 ix4 ix5
open Idealize.ShloMosaic.ValueIdx Idealize.ShloMosaic.TcCoe Idealize.SL.Sem
open Cert.Rvq

theorem algebraic : Cert.algebraic_KernelIdeal_ReferenceIdeal_pre_codes_in_range := by
  intro m g m' g' hpre hargs
  have hc : ∀ c : Dev Cert.KernelIdeal.nD, ∀ i, (m ((c.tc : Thread Cert.KernelIdeal.nD Cert.KernelIdeal.τ).loc Cert.KernelIdeal.main_arg0) i : BitVec 32).toNat < 1024 :=
    fun c i => codes_lt _ _ _ _ _ _ (hpre c) i
  have hc' : ∀ c : Dev Cert.ReferenceIdeal.nD, ∀ i, (m' ((c.tc : Thread Cert.ReferenceIdeal.nD Cert.ReferenceIdeal.τ).loc Cert.ReferenceIdeal.main_arg0) i : BitVec 32).toNat < 1024 := by
    intro c i
    rw [(hargs c).1]
    exact hc c i
  have he : ∀ c : Dev Cert.KernelIdeal.nD, Cert.ReferenceIdeal.RefValue.resultAt m' c = Cert.KernelIdeal.Gen.val m c := by
    intro c
    obtain ⟨h0, h1, h2, h3, h4, h5⟩ := hargs c
    unfold Cert.ReferenceIdeal.RefValue.resultAt Cert.KernelIdeal.Gen.val
    rw [h0, h1, h2, h3, h4, h5]
    rfl
  refine ⟨fun c => Cert.KernelIdeal.Gen.val m c, ?_, ?_⟩
  · exact (θ_run _ _ _).mono (fun r h c => ⟨h.1 c, h.2 c⟩)
      (θ_run_and (Cert.KernelIdeal.Gen.run_val m g hc) (Cert.KernelIdeal.Gen.unchanged m g trivial))
  · exact (θ_run _ _ _).mono (fun r h c => ⟨(h c).1.trans (he c), (h c).2⟩) (Cert.ReferenceIdeal.RefValue.run_val m' g' hc')

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_codes_in_range
public import proofs.«01_k».proof.Proof.Close
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_codes_in_range.Gen.facts,
    fun m ρ _ => Cert.Kernel.Gen.frame m ρ trivial,
    fun m ρ _ => Cert.KernelIdeal.Gen.frame m ρ trivial,
    fun m ρ _ => Cert.KernelIdeal.Gen.frame m ρ trivial,
    fun m ρ _ => Cert.ReferenceIdeal.Gen.frame m ρ,
    fun m ρ _ => Cert.ReferenceIdeal.Gen.frame m ρ,
    trivial, algebraic⟩

end Cert.Proof

end
